-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v13) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4x2048x2048 : Shape := ⟨3, ![4, 2048, 2048]⟩
abbrev S8192x2048 : Shape := ⟨2, ![8192, 2048]⟩
abbrev S2048 : Shape := ⟨1, ![2048]⟩
abbrev S2x256x128 : Shape := ⟨3, ![2, 256, 128]⟩
abbrev S4x256 : Shape := ⟨2, ![4, 256]⟩
abbrev S8x4x256 : Shape := ⟨3, ![8, 4, 256]⟩
abbrev S128 : Shape := ⟨1, ![128]⟩
abbrev S16x4x256 : Shape := ⟨3, ![16, 4, 256]⟩
abbrev S_ : Shape := ⟨0, ![]⟩
abbrev S1x256x128 : Shape := ⟨3, ![1, 256, 128]⟩
abbrev S256x128 : Shape := ⟨2, ![256, 128]⟩
abbrev S16 : Shape := ⟨1, ![16]⟩
abbrev S1x16 : Shape := ⟨2, ![1, 16]⟩
abbrev S1x4x256 : Shape := ⟨3, ![1, 4, 256]⟩
abbrev S1x1x16 : Shape := ⟨3, ![1, 1, 16]⟩
abbrev S4x1x1536 : Shape := ⟨3, ![4, 1, 1536]⟩
abbrev S1x2048x1536 : Shape := ⟨3, ![1, 2048, 1536]⟩
abbrev S1x1x1536 : Shape := ⟨3, ![1, 1, 1536]⟩
abbrev S2048x1536 : Shape := ⟨2, ![2048, 1536]⟩
abbrev S1536 : Shape := ⟨1, ![1536]⟩
abbrev S4x1536 : Shape := ⟨2, ![4, 1536]⟩
abbrev S4x512 : Shape := ⟨2, ![4, 512]⟩
abbrev S4x2048 : Shape := ⟨2, ![4, 2048]⟩

abbrev nBuf : Table → Nat
  | .hbm => 7
  | .local .tc .vmem => 4
  | .shared => 1
  | .local .scVector .vmem => 4
  | _ => 0

abbrev bufTy : (tb : Table) → Fin (nBuf tb) → BufTy
  | .hbm, ⟨0, _⟩ => ⟨S4x2048x2048, .f32⟩
  | .hbm, ⟨1, _⟩ => ⟨S8192x2048, .f32⟩
  | .hbm, ⟨2, _⟩ => ⟨S2048, .f32⟩
  | .hbm, ⟨3, _⟩ => ⟨S4x1x1536, .f32⟩
  | .hbm, ⟨4, _⟩ => ⟨S4x1536, .f32⟩
  | .hbm, ⟨5, _⟩ => ⟨S4x512, .f32⟩
  | .hbm, ⟨6, _⟩ => ⟨S4x2048, .f32⟩
  | .local .tc .vmem, ⟨0, _⟩ => ⟨S1x2048x1536, .f32⟩
  | .local .tc .vmem, ⟨1, _⟩ => ⟨S1x2048x1536, .f32⟩
  | .local .tc .vmem, ⟨2, _⟩ => ⟨S1x1x1536, .f32⟩
  | .local .tc .vmem, ⟨3, _⟩ => ⟨S1x1x1536, .f32⟩
  | .shared, ⟨0, _⟩ => ⟨S16x4x256, .f32⟩
  | .local .scVector .vmem, ⟨0, _⟩ => ⟨S2x256x128, .f32⟩
  | .local .scVector .vmem, ⟨1, _⟩ => ⟨S4x256, .f32⟩
  | .local .scVector .vmem, ⟨2, _⟩ => ⟨S8x4x256, .f32⟩
  | .local .scVector .vmem, ⟨3, _⟩ => ⟨S128, .f32⟩
  | _, _ => ⟨S4x2048x2048, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | _, _ => false

abbrev semScoped : Fin 5 → Bool
  | ⟨0, _⟩ => false
  | ⟨1, _⟩ => false
  | ⟨2, _⟩ => false
  | ⟨3, _⟩ => false
  | ⟨4, _⟩ => false
  | _ => false

abbrev dmaSemScoped : Fin 9 → Bool
  | ⟨0, _⟩ => false
  | ⟨1, _⟩ => false
  | ⟨2, _⟩ => false
  | ⟨3, _⟩ => false
  | ⟨4, _⟩ => false
  | ⟨5, _⟩ => true
  | ⟨6, _⟩ => true
  | ⟨7, _⟩ => true
  | ⟨8, _⟩ => true
  | _ => false

abbrev sig : RefSig :=
  ofTables nBuf rfl bufTy 5 9 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v0_scv : Ref sig .scVector := ⟨.hbm, 1, rfl⟩
abbrev main_v1_scv : Ref sig .scVector := ⟨.hbm, 2, rfl⟩
abbrev cc1_stg0_0 : Ref sig .tc := ⟨.vmem, 0, rfl⟩
abbrev cc1_stg0_1 : Ref sig .tc := ⟨.vmem, 1, rfl⟩
abbrev cc1_stg1_0 : Ref sig .tc := ⟨.vmem, 2, rfl⟩
abbrev cc1_stg1_1 : Ref sig .tc := ⟨.vmem, 3, rfl⟩
abbrev cc0_scratch4 : Ref sig .scVector := ⟨.shared, 0, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc1_sem0_0 : DmaSem sig := 5
abbrev cc1_sem0_1 : DmaSem sig := 6
abbrev cc1_sem1_0 : DmaSem sig := 7
abbrev cc1_sem1_1 : DmaSem sig := 8
abbrev sc_start : Sem sig := 0
abbrev sc_done : Sem sig := 1
abbrev sc_go : Sem sig := 2
abbrev sc_taskDone : Sem sig := 3
abbrev sc_bar0 : Sem sig := 4

abbrev nD : Nat := 1
abbrev τ : Topo := Topo.v7x

variable {F : FTy → Type} [FloatOps F]

abbrev grid0 : Pipeline.Grid := ⟨2, ![2, 16], ![false, false]⟩

def k0_off1 (i : grid0.Coords) (c0_i32_10 : BitVec 32) : Fin 2 → Nat :=
  let arg1 : BitVec 32 := BitVec.ofNat 32 (i 1).val
  let c8_i32_4 : BitVec 32 := 8#32
  let c0_i32_5 : BitVec 32 := 0#32
  let v19 : BitVec 1 := Scalar.cmpi .eq c8_i32_4 c0_i32_5
  let c1_i32_6 : BitVec 32 := 1#32
  let v20 : BitVec 32 := Scalar.select v19 c1_i32_6 c8_i32_4
  let v21 : BitVec 32 := Scalar.remsi arg1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c256_i32 : BitVec 32 := 256#32
  let v31 : BitVec 32 := Scalar.muli v28 c256_i32
  let v32 : BitVec 32 := Scalar.addi c0_i32_10 v31
  let c0_i32_11 : BitVec 32 := 0#32
  let v33 : BitVec 32 := Scalar.addi v32 c0_i32_11
  let c1536_i32 : BitVec 32 := 1536#32
  let arg0 : BitVec 32 := BitVec.ofNat 32 (i 0).val
  let c2_i32 : BitVec 32 := 2#32
  let v0 : BitVec 32 := Scalar.muli arg0 c2_i32
  let c0_i32 : BitVec 32 := 0#32
  let v2 : BitVec 1 := Scalar.cmpi .sgt arg1 c0_i32
  let v3 : BitVec 32 := Scalar.extui v2
  let c0_i32_0 : BitVec 32 := 0#32
  let v4 : BitVec 1 := Scalar.cmpi .slt arg1 c0_i32_0
  let v5 : BitVec 32 := Scalar.extui v4
  let v6 : BitVec 32 := Scalar.subi v3 v5
  let c8_i32 : BitVec 32 := 8#32
  let c0_i32_1 : BitVec 32 := 0#32
  let v7 : BitVec 1 := Scalar.cmpi .sgt c8_i32 c0_i32_1
  let v8 : BitVec 32 := Scalar.extui v7
  let c0_i32_2 : BitVec 32 := 0#32
  let v9 : BitVec 1 := Scalar.cmpi .slt c8_i32 c0_i32_2
  let v10 : BitVec 32 := Scalar.extui v9
  let v11 : BitVec 32 := Scalar.subi v8 v10
  let v12 : BitVec 1 := Scalar.cmpi .ne v6 v11
  let v13 : BitVec 32 := Scalar.remsi arg1 c8_i32
  let c0_i32_3 : BitVec 32 := 0#32
  let v14 : BitVec 1 := Scalar.cmpi .ne v13 c0_i32_3
  let v15 : BitVec 1 := Scalar.andi v12 v14
  let v1 : BitVec 32 := Scalar.divsi arg1 c8_i32
  let c1_i32 : BitVec 32 := 1#32
  let v16 : BitVec 32 := Scalar.subi v1 c1_i32
  let v17 : BitVec 32 := Scalar.select v15 v16 v1
  let v18 : BitVec 32 := Scalar.addi v0 v17
  let c128_i32 : BitVec 32 := 128#32
  let v29 : BitVec 32 := Scalar.muli v18 c128_i32
  let v30 : BitVec 32 := Scalar.addi c1536_i32 v29
  ![v33.toNat, v30.toNat]
@[reducible] def k0_t1_loop : Scf.Loop 32 :=
  let c0_i32_44 : BitVec 32 := 0#32
  let c256_i32_45 : BitVec 32 := 256#32
  let v70 : BitVec 32 := Scalar.addi c0_i32_44 c256_i32_45
  let c1_i32_46 : BitVec 32 := 1#32
  ⟨c0_i32_44, v70, c1_i32_46⟩
def k0_off2 (k0_t1 : Fin k0_t1_loop.trips) : Fin 2 → Nat :=
  let c0_i32_269 : BitVec 32 := 0#32
  let c0_i32_44 : BitVec 32 := 0#32
  let c1_i32_46 : BitVec 32 := 1#32
  let arg12 : BitVec 32 := Scf.iv c0_i32_44 c1_i32_46 k0_t1
  let c1_i32_268 : BitVec 32 := 1#32
  let v435 : BitVec 32 := Scalar.muli arg12 c1_i32_268
  let v436 : BitVec 32 := Scalar.addi c0_i32_269 v435
  let v439 : Index := Scalar.indexCast v436
  let c0_272 : Index := 0#32
  ![v439.toNat, 0]
def k0_off3 (k0_t1 : Fin k0_t1_loop.trips) : Fin 2 → Nat :=
  let c0_i32_269 : BitVec 32 := 0#32
  let c0_i32_44 : BitVec 32 := 0#32
  let c1_i32_46 : BitVec 32 := 1#32
  let arg12 : BitVec 32 := Scf.iv c0_i32_44 c1_i32_46 k0_t1
  let c1_i32_268 : BitVec 32 := 1#32
  let v435 : BitVec 32 := Scalar.muli arg12 c1_i32_268
  let v436 : BitVec 32 := Scalar.addi c0_i32_269 v435
  let v454 : Index := Scalar.indexCast v436
  let c16_278 : Index := 16#32
  ![v454.toNat, 16]
def k0_off4 (k0_t1 : Fin k0_t1_loop.trips) : Fin 2 → Nat :=
  let c0_i32_269 : BitVec 32 := 0#32
  let c0_i32_44 : BitVec 32 := 0#32
  let c1_i32_46 : BitVec 32 := 1#32
  let arg12 : BitVec 32 := Scf.iv c0_i32_44 c1_i32_46 k0_t1
  let c1_i32_268 : BitVec 32 := 1#32
  let v435 : BitVec 32 := Scalar.muli arg12 c1_i32_268
  let v436 : BitVec 32 := Scalar.addi c0_i32_269 v435
  let v469 : Index := Scalar.indexCast v436
  let c32_284 : Index := 32#32
  ![v469.toNat, 32]
def k0_off5 (k0_t1 : Fin k0_t1_loop.trips) : Fin 2 → Nat :=
  let c0_i32_269 : BitVec 32 := 0#32
  let c0_i32_44 : BitVec 32 := 0#32
  let c1_i32_46 : BitVec 32 := 1#32
  let arg12 : BitVec 32 := Scf.iv c0_i32_44 c1_i32_46 k0_t1
  let c1_i32_268 : BitVec 32 := 1#32
  let v435 : BitVec 32 := Scalar.muli arg12 c1_i32_268
  let v436 : BitVec 32 := Scalar.addi c0_i32_269 v435
  let v484 : Index := Scalar.indexCast v436
  let c48_290 : Index := 48#32
  ![v484.toNat, 48]
def k0_off6 (k0_t1 : Fin k0_t1_loop.trips) : Fin 2 → Nat :=
  let c0_i32_269 : BitVec 32 := 0#32
  let c0_i32_44 : BitVec 32 := 0#32
  let c1_i32_46 : BitVec 32 := 1#32
  let arg12 : BitVec 32 := Scf.iv c0_i32_44 c1_i32_46 k0_t1
  let c1_i32_268 : BitVec 32 := 1#32
  let v435 : BitVec 32 := Scalar.muli arg12 c1_i32_268
  let v436 : BitVec 32 := Scalar.addi c0_i32_269 v435
  let v499 : Index := Scalar.indexCast v436
  let c64_296 : Index := 64#32
  ![v499.toNat, 64]
def k0_off7 (k0_t1 : Fin k0_t1_loop.trips) : Fin 2 → Nat :=
  let c0_i32_269 : BitVec 32 := 0#32
  let c0_i32_44 : BitVec 32 := 0#32
  let c1_i32_46 : BitVec 32 := 1#32
  let arg12 : BitVec 32 := Scf.iv c0_i32_44 c1_i32_46 k0_t1
  let c1_i32_268 : BitVec 32 := 1#32
  let v435 : BitVec 32 := Scalar.muli arg12 c1_i32_268
  let v436 : BitVec 32 := Scalar.addi c0_i32_269 v435
  let v514 : Index := Scalar.indexCast v436
  let c80_302 : Index := 80#32
  ![v514.toNat, 80]
def k0_off8 (k0_t1 : Fin k0_t1_loop.trips) : Fin 2 → Nat :=
  let c0_i32_269 : BitVec 32 := 0#32
  let c0_i32_44 : BitVec 32 := 0#32
  let c1_i32_46 : BitVec 32 := 1#32
  let arg12 : BitVec 32 := Scf.iv c0_i32_44 c1_i32_46 k0_t1
  let c1_i32_268 : BitVec 32 := 1#32
  let v435 : BitVec 32 := Scalar.muli arg12 c1_i32_268
  let v436 : BitVec 32 := Scalar.addi c0_i32_269 v435
  let v529 : Index := Scalar.indexCast v436
  let c96_308 : Index := 96#32
  ![v529.toNat, 96]
def k0_off9 (k0_t1 : Fin k0_t1_loop.trips) : Fin 2 → Nat :=
  let c0_i32_269 : BitVec 32 := 0#32
  let c0_i32_44 : BitVec 32 := 0#32
  let c1_i32_46 : BitVec 32 := 1#32
  let arg12 : BitVec 32 := Scf.iv c0_i32_44 c1_i32_46 k0_t1
  let c1_i32_268 : BitVec 32 := 1#32
  let v435 : BitVec 32 := Scalar.muli arg12 c1_i32_268
  let v436 : BitVec 32 := Scalar.addi c0_i32_269 v435
  let v544 : Index := Scalar.indexCast v436
  let c112_314 : Index := 112#32
  ![v544.toNat, 112]
@[reducible] def k0_t2_loop : Scf.Loop 32 :=
  let c0_i32_92 : BitVec 32 := 0#32
  let c256_i32_93 : BitVec 32 := 256#32
  let v166 : BitVec 32 := Scalar.addi c0_i32_92 c256_i32_93
  let c1_i32_94 : BitVec 32 := 1#32
  ⟨c0_i32_92, v166, c1_i32_94⟩
def k0_off10 (k0_t2 : Fin k0_t2_loop.trips) : Fin 2 → Nat :=
  let c0_i32_269 : BitVec 32 := 0#32
  let c0_i32_92 : BitVec 32 := 0#32
  let c1_i32_94 : BitVec 32 := 1#32
  let arg12 : BitVec 32 := Scf.iv c0_i32_92 c1_i32_94 k0_t2
  let c1_i32_268 : BitVec 32 := 1#32
  let v435 : BitVec 32 := Scalar.muli arg12 c1_i32_268
  let v436 : BitVec 32 := Scalar.addi c0_i32_269 v435
  let v439 : Index := Scalar.indexCast v436
  let c0_272 : Index := 0#32
  ![v439.toNat, 0]
def k0_off11 (k0_t2 : Fin k0_t2_loop.trips) : Fin 2 → Nat :=
  let c0_i32_269 : BitVec 32 := 0#32
  let c0_i32_92 : BitVec 32 := 0#32
  let c1_i32_94 : BitVec 32 := 1#32
  let arg12 : BitVec 32 := Scf.iv c0_i32_92 c1_i32_94 k0_t2
  let c1_i32_268 : BitVec 32 := 1#32
  let v435 : BitVec 32 := Scalar.muli arg12 c1_i32_268
  let v436 : BitVec 32 := Scalar.addi c0_i32_269 v435
  let v454 : Index := Scalar.indexCast v436
  let c16_278 : Index := 16#32
  ![v454.toNat, 16]
def k0_off12 (k0_t2 : Fin k0_t2_loop.trips) : Fin 2 → Nat :=
  let c0_i32_269 : BitVec 32 := 0#32
  let c0_i32_92 : BitVec 32 := 0#32
  let c1_i32_94 : BitVec 32 := 1#32
  let arg12 : BitVec 32 := Scf.iv c0_i32_92 c1_i32_94 k0_t2
  let c1_i32_268 : BitVec 32 := 1#32
  let v435 : BitVec 32 := Scalar.muli arg12 c1_i32_268
  let v436 : BitVec 32 := Scalar.addi c0_i32_269 v435
  let v469 : Index := Scalar.indexCast v436
  let c32_284 : Index := 32#32
  ![v469.toNat, 32]
def k0_off13 (k0_t2 : Fin k0_t2_loop.trips) : Fin 2 → Nat :=
  let c0_i32_269 : BitVec 32 := 0#32
  let c0_i32_92 : BitVec 32 := 0#32
  let c1_i32_94 : BitVec 32 := 1#32
  let arg12 : BitVec 32 := Scf.iv c0_i32_92 c1_i32_94 k0_t2
  let c1_i32_268 : BitVec 32 := 1#32
  let v435 : BitVec 32 := Scalar.muli arg12 c1_i32_268
  let v436 : BitVec 32 := Scalar.addi c0_i32_269 v435
  let v484 : Index := Scalar.indexCast v436
  let c48_290 : Index := 48#32
  ![v484.toNat, 48]
def k0_off14 (k0_t2 : Fin k0_t2_loop.trips) : Fin 2 → Nat :=
  let c0_i32_269 : BitVec 32 := 0#32
  let c0_i32_92 : BitVec 32 := 0#32
  let c1_i32_94 : BitVec 32 := 1#32
  let arg12 : BitVec 32 := Scf.iv c0_i32_92 c1_i32_94 k0_t2
  let c1_i32_268 : BitVec 32 := 1#32
  let v435 : BitVec 32 := Scalar.muli arg12 c1_i32_268
  let v436 : BitVec 32 := Scalar.addi c0_i32_269 v435
  let v499 : Index := Scalar.indexCast v436
  let c64_296 : Index := 64#32
  ![v499.toNat, 64]
def k0_off15 (k0_t2 : Fin k0_t2_loop.trips) : Fin 2 → Nat :=
  let c0_i32_269 : BitVec 32 := 0#32
  let c0_i32_92 : BitVec 32 := 0#32
  let c1_i32_94 : BitVec 32 := 1#32
  let arg12 : BitVec 32 := Scf.iv c0_i32_92 c1_i32_94 k0_t2
  let c1_i32_268 : BitVec 32 := 1#32
  let v435 : BitVec 32 := Scalar.muli arg12 c1_i32_268
  let v436 : BitVec 32 := Scalar.addi c0_i32_269 v435
  let v514 : Index := Scalar.indexCast v436
  let c80_302 : Index := 80#32
  ![v514.toNat, 80]
def k0_off16 (k0_t2 : Fin k0_t2_loop.trips) : Fin 2 → Nat :=
  let c0_i32_269 : BitVec 32 := 0#32
  let c0_i32_92 : BitVec 32 := 0#32
  let c1_i32_94 : BitVec 32 := 1#32
  let arg12 : BitVec 32 := Scf.iv c0_i32_92 c1_i32_94 k0_t2
  let c1_i32_268 : BitVec 32 := 1#32
  let v435 : BitVec 32 := Scalar.muli arg12 c1_i32_268
  let v436 : BitVec 32 := Scalar.addi c0_i32_269 v435
  let v529 : Index := Scalar.indexCast v436
  let c96_308 : Index := 96#32
  ![v529.toNat, 96]
def k0_off17 (k0_t2 : Fin k0_t2_loop.trips) : Fin 2 → Nat :=
  let c0_i32_269 : BitVec 32 := 0#32
  let c0_i32_92 : BitVec 32 := 0#32
  let c1_i32_94 : BitVec 32 := 1#32
  let arg12 : BitVec 32 := Scf.iv c0_i32_92 c1_i32_94 k0_t2
  let c1_i32_268 : BitVec 32 := 1#32
  let v435 : BitVec 32 := Scalar.muli arg12 c1_i32_268
  let v436 : BitVec 32 := Scalar.addi c0_i32_269 v435
  let v544 : Index := Scalar.indexCast v436
  let c112_314 : Index := 112#32
  ![v544.toNat, 112]
@[reducible] def k0_t3_loop : Scf.Loop 32 :=
  let c0_i32_156 : BitVec 32 := 0#32
  let c256_i32_157 : BitVec 32 := 256#32
  let v262 : BitVec 32 := Scalar.addi c0_i32_156 c256_i32_157
  let c1_i32_158 : BitVec 32 := 1#32
  ⟨c0_i32_156, v262, c1_i32_158⟩
def k0_off18 (k0_t3 : Fin k0_t3_loop.trips) : Fin 2 → Nat :=
  let c0_i32_269 : BitVec 32 := 0#32
  let c0_i32_156 : BitVec 32 := 0#32
  let c1_i32_158 : BitVec 32 := 1#32
  let arg12 : BitVec 32 := Scf.iv c0_i32_156 c1_i32_158 k0_t3
  let c1_i32_268 : BitVec 32 := 1#32
  let v435 : BitVec 32 := Scalar.muli arg12 c1_i32_268
  let v436 : BitVec 32 := Scalar.addi c0_i32_269 v435
  let v439 : Index := Scalar.indexCast v436
  let c0_272 : Index := 0#32
  ![v439.toNat, 0]
def k0_off19 (k0_t3 : Fin k0_t3_loop.trips) : Fin 2 → Nat :=
  let c0_i32_269 : BitVec 32 := 0#32
  let c0_i32_156 : BitVec 32 := 0#32
  let c1_i32_158 : BitVec 32 := 1#32
  let arg12 : BitVec 32 := Scf.iv c0_i32_156 c1_i32_158 k0_t3
  let c1_i32_268 : BitVec 32 := 1#32
  let v435 : BitVec 32 := Scalar.muli arg12 c1_i32_268
  let v436 : BitVec 32 := Scalar.addi c0_i32_269 v435
  let v454 : Index := Scalar.indexCast v436
  let c16_278 : Index := 16#32
  ![v454.toNat, 16]
def k0_off20 (k0_t3 : Fin k0_t3_loop.trips) : Fin 2 → Nat :=
  let c0_i32_269 : BitVec 32 := 0#32
  let c0_i32_156 : BitVec 32 := 0#32
  let c1_i32_158 : BitVec 32 := 1#32
  let arg12 : BitVec 32 := Scf.iv c0_i32_156 c1_i32_158 k0_t3
  let c1_i32_268 : BitVec 32 := 1#32
  let v435 : BitVec 32 := Scalar.muli arg12 c1_i32_268
  let v436 : BitVec 32 := Scalar.addi c0_i32_269 v435
  let v469 : Index := Scalar.indexCast v436
  let c32_284 : Index := 32#32
  ![v469.toNat, 32]
def k0_off21 (k0_t3 : Fin k0_t3_loop.trips) : Fin 2 → Nat :=
  let c0_i32_269 : BitVec 32 := 0#32
  let c0_i32_156 : BitVec 32 := 0#32
  let c1_i32_158 : BitVec 32 := 1#32
  let arg12 : BitVec 32 := Scf.iv c0_i32_156 c1_i32_158 k0_t3
  let c1_i32_268 : BitVec 32 := 1#32
  let v435 : BitVec 32 := Scalar.muli arg12 c1_i32_268
  let v436 : BitVec 32 := Scalar.addi c0_i32_269 v435
  let v484 : Index := Scalar.indexCast v436
  let c48_290 : Index := 48#32
  ![v484.toNat, 48]
def k0_off22 (k0_t3 : Fin k0_t3_loop.trips) : Fin 2 → Nat :=
  let c0_i32_269 : BitVec 32 := 0#32
  let c0_i32_156 : BitVec 32 := 0#32
  let c1_i32_158 : BitVec 32 := 1#32
  let arg12 : BitVec 32 := Scf.iv c0_i32_156 c1_i32_158 k0_t3
  let c1_i32_268 : BitVec 32 := 1#32
  let v435 : BitVec 32 := Scalar.muli arg12 c1_i32_268
  let v436 : BitVec 32 := Scalar.addi c0_i32_269 v435
  let v499 : Index := Scalar.indexCast v436
  let c64_296 : Index := 64#32
  ![v499.toNat, 64]
def k0_off23 (k0_t3 : Fin k0_t3_loop.trips) : Fin 2 → Nat :=
  let c0_i32_269 : BitVec 32 := 0#32
  let c0_i32_156 : BitVec 32 := 0#32
  let c1_i32_158 : BitVec 32 := 1#32
  let arg12 : BitVec 32 := Scf.iv c0_i32_156 c1_i32_158 k0_t3
  let c1_i32_268 : BitVec 32 := 1#32
  let v435 : BitVec 32 := Scalar.muli arg12 c1_i32_268
  let v436 : BitVec 32 := Scalar.addi c0_i32_269 v435
  let v514 : Index := Scalar.indexCast v436
  let c80_302 : Index := 80#32
  ![v514.toNat, 80]
def k0_off24 (k0_t3 : Fin k0_t3_loop.trips) : Fin 2 → Nat :=
  let c0_i32_269 : BitVec 32 := 0#32
  let c0_i32_156 : BitVec 32 := 0#32
  let c1_i32_158 : BitVec 32 := 1#32
  let arg12 : BitVec 32 := Scf.iv c0_i32_156 c1_i32_158 k0_t3
  let c1_i32_268 : BitVec 32 := 1#32
  let v435 : BitVec 32 := Scalar.muli arg12 c1_i32_268
  let v436 : BitVec 32 := Scalar.addi c0_i32_269 v435
  let v529 : Index := Scalar.indexCast v436
  let c96_308 : Index := 96#32
  ![v529.toNat, 96]
def k0_off25 (k0_t3 : Fin k0_t3_loop.trips) : Fin 2 → Nat :=
  let c0_i32_269 : BitVec 32 := 0#32
  let c0_i32_156 : BitVec 32 := 0#32
  let c1_i32_158 : BitVec 32 := 1#32
  let arg12 : BitVec 32 := Scf.iv c0_i32_156 c1_i32_158 k0_t3
  let c1_i32_268 : BitVec 32 := 1#32
  let v435 : BitVec 32 := Scalar.muli arg12 c1_i32_268
  let v436 : BitVec 32 := Scalar.addi c0_i32_269 v435
  let v544 : Index := Scalar.indexCast v436
  let c112_314 : Index := 112#32
  ![v544.toNat, 112]
@[reducible] def k0_t4_loop : Scf.Loop 32 :=
  let c0_i32_214 : BitVec 32 := 0#32
  let c256_i32_215 : BitVec 32 := 256#32
  let v350 : BitVec 32 := Scalar.addi c0_i32_214 c256_i32_215
  let c1_i32_216 : BitVec 32 := 1#32
  ⟨c0_i32_214, v350, c1_i32_216⟩
def k0_off26 (k0_t4 : Fin k0_t4_loop.trips) : Fin 2 → Nat :=
  let c0_i32_269 : BitVec 32 := 0#32
  let c0_i32_214 : BitVec 32 := 0#32
  let c1_i32_216 : BitVec 32 := 1#32
  let arg12 : BitVec 32 := Scf.iv c0_i32_214 c1_i32_216 k0_t4
  let c1_i32_268 : BitVec 32 := 1#32
  let v435 : BitVec 32 := Scalar.muli arg12 c1_i32_268
  let v436 : BitVec 32 := Scalar.addi c0_i32_269 v435
  let v439 : Index := Scalar.indexCast v436
  let c0_272 : Index := 0#32
  ![v439.toNat, 0]
def k0_off27 (k0_t4 : Fin k0_t4_loop.trips) : Fin 2 → Nat :=
  let c0_i32_269 : BitVec 32 := 0#32
  let c0_i32_214 : BitVec 32 := 0#32
  let c1_i32_216 : BitVec 32 := 1#32
  let arg12 : BitVec 32 := Scf.iv c0_i32_214 c1_i32_216 k0_t4
  let c1_i32_268 : BitVec 32 := 1#32
  let v435 : BitVec 32 := Scalar.muli arg12 c1_i32_268
  let v436 : BitVec 32 := Scalar.addi c0_i32_269 v435
  let v454 : Index := Scalar.indexCast v436
  let c16_278 : Index := 16#32
  ![v454.toNat, 16]
def k0_off28 (k0_t4 : Fin k0_t4_loop.trips) : Fin 2 → Nat :=
  let c0_i32_269 : BitVec 32 := 0#32
  let c0_i32_214 : BitVec 32 := 0#32
  let c1_i32_216 : BitVec 32 := 1#32
  let arg12 : BitVec 32 := Scf.iv c0_i32_214 c1_i32_216 k0_t4
  let c1_i32_268 : BitVec 32 := 1#32
  let v435 : BitVec 32 := Scalar.muli arg12 c1_i32_268
  let v436 : BitVec 32 := Scalar.addi c0_i32_269 v435
  let v469 : Index := Scalar.indexCast v436
  let c32_284 : Index := 32#32
  ![v469.toNat, 32]
def k0_off29 (k0_t4 : Fin k0_t4_loop.trips) : Fin 2 → Nat :=
  let c0_i32_269 : BitVec 32 := 0#32
  let c0_i32_214 : BitVec 32 := 0#32
  let c1_i32_216 : BitVec 32 := 1#32
  let arg12 : BitVec 32 := Scf.iv c0_i32_214 c1_i32_216 k0_t4
  let c1_i32_268 : BitVec 32 := 1#32
  let v435 : BitVec 32 := Scalar.muli arg12 c1_i32_268
  let v436 : BitVec 32 := Scalar.addi c0_i32_269 v435
  let v484 : Index := Scalar.indexCast v436
  let c48_290 : Index := 48#32
  ![v484.toNat, 48]
def k0_off30 (k0_t4 : Fin k0_t4_loop.trips) : Fin 2 → Nat :=
  let c0_i32_269 : BitVec 32 := 0#32
  let c0_i32_214 : BitVec 32 := 0#32
  let c1_i32_216 : BitVec 32 := 1#32
  let arg12 : BitVec 32 := Scf.iv c0_i32_214 c1_i32_216 k0_t4
  let c1_i32_268 : BitVec 32 := 1#32
  let v435 : BitVec 32 := Scalar.muli arg12 c1_i32_268
  let v436 : BitVec 32 := Scalar.addi c0_i32_269 v435
  let v499 : Index := Scalar.indexCast v436
  let c64_296 : Index := 64#32
  ![v499.toNat, 64]
def k0_off31 (k0_t4 : Fin k0_t4_loop.trips) : Fin 2 → Nat :=
  let c0_i32_269 : BitVec 32 := 0#32
  let c0_i32_214 : BitVec 32 := 0#32
  let c1_i32_216 : BitVec 32 := 1#32
  let arg12 : BitVec 32 := Scf.iv c0_i32_214 c1_i32_216 k0_t4
  let c1_i32_268 : BitVec 32 := 1#32
  let v435 : BitVec 32 := Scalar.muli arg12 c1_i32_268
  let v436 : BitVec 32 := Scalar.addi c0_i32_269 v435
  let v514 : Index := Scalar.indexCast v436
  let c80_302 : Index := 80#32
  ![v514.toNat, 80]
def k0_off32 (k0_t4 : Fin k0_t4_loop.trips) : Fin 2 → Nat :=
  let c0_i32_269 : BitVec 32 := 0#32
  let c0_i32_214 : BitVec 32 := 0#32
  let c1_i32_216 : BitVec 32 := 1#32
  let arg12 : BitVec 32 := Scf.iv c0_i32_214 c1_i32_216 k0_t4
  let c1_i32_268 : BitVec 32 := 1#32
  let v435 : BitVec 32 := Scalar.muli arg12 c1_i32_268
  let v436 : BitVec 32 := Scalar.addi c0_i32_269 v435
  let v529 : Index := Scalar.indexCast v436
  let c96_308 : Index := 96#32
  ![v529.toNat, 96]
def k0_off33 (k0_t4 : Fin k0_t4_loop.trips) : Fin 2 → Nat :=
  let c0_i32_269 : BitVec 32 := 0#32
  let c0_i32_214 : BitVec 32 := 0#32
  let c1_i32_216 : BitVec 32 := 1#32
  let arg12 : BitVec 32 := Scf.iv c0_i32_214 c1_i32_216 k0_t4
  let c1_i32_268 : BitVec 32 := 1#32
  let v435 : BitVec 32 := Scalar.muli arg12 c1_i32_268
  let v436 : BitVec 32 := Scalar.addi c0_i32_269 v435
  let v544 : Index := Scalar.indexCast v436
  let c112_314 : Index := 112#32
  ![v544.toNat, 112]
def k0_off34 (i : grid0.Coords) : Fin 3 → Nat :=
  let arg1 : BitVec 32 := BitVec.ofNat 32 (i 1).val
  let c0_i32_268_r0 : BitVec 32 := 0#32
  let c0_i32_269_r0 : BitVec 32 := 0#32
  ![arg1.toNat, 0, 0]
def k0_cond1 (i : grid0.Coords) : BitVec 1 :=
  let arg1 : BitVec 32 := BitVec.ofNat 32 (i 1).val
  let c8_i32_4 : BitVec 32 := 8#32
  let c0_i32_5 : BitVec 32 := 0#32
  let v19 : BitVec 1 := Scalar.cmpi .eq c8_i32_4 c0_i32_5
  let c1_i32_6 : BitVec 32 := 1#32
  let v20 : BitVec 32 := Scalar.select v19 c1_i32_6 c8_i32_4
  let v21 : BitVec 32 := Scalar.remsi arg1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c0_i32_266 : BitVec 32 := 0#32
  let v432 : BitVec 1 := Scalar.cmpi .eq v28 c0_i32_266
  let v433 : BitVec 32 := Scalar.extui v432
  let c0_i32_267 : BitVec 32 := 0#32
  let v434 : BitVec 1 := Scalar.cmpi .ne v433 c0_i32_267
  v434

def k0_off35 (i : grid0.Coords) : Fin 3 → Nat :=
  let arg1 : BitVec 32 := BitVec.ofNat 32 (i 1).val
  let c0_i32_1838_r1 : BitVec 32 := 0#32
  let c0_i32_1839_r1 : BitVec 32 := 0#32
  ![arg1.toNat, 0, 0]
def k0_off36 (i : grid0.Coords) (c0_i32_657 : BitVec 32) : Fin 1 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let c0_i32 : BitVec 32 := 0#32
  let v2 : BitVec 1 := Scalar.cmpi .sgt arg1 c0_i32
  let v3 : BitVec 32 := Scalar.extui v2
  let c0_i32_0 : BitVec 32 := 0#32
  let v4 : BitVec 1 := Scalar.cmpi .slt arg1 c0_i32_0
  let v5 : BitVec 32 := Scalar.extui v4
  let v6 : BitVec 32 := Scalar.subi v3 v5
  let c8_i32 : BitVec 32 := 8#32
  let c0_i32_1 : BitVec 32 := 0#32
  let v7 : BitVec 1 := Scalar.cmpi .sgt c8_i32 c0_i32_1
  let v8 : BitVec 32 := Scalar.extui v7
  let c0_i32_2 : BitVec 32 := 0#32
  let v9 : BitVec 1 := Scalar.cmpi .slt c8_i32 c0_i32_2
  let v10 : BitVec 32 := Scalar.extui v9
  let v11 : BitVec 32 := Scalar.subi v8 v10
  let v12 : BitVec 1 := Scalar.cmpi .ne v6 v11
  let v13 : BitVec 32 := Scalar.remsi arg1 c8_i32
  let c0_i32_3 : BitVec 32 := 0#32
  let v14 : BitVec 1 := Scalar.cmpi .ne v13 c0_i32_3
  let v15 : BitVec 1 := Scalar.andi v12 v14
  let v1 : BitVec 32 := Scalar.divsi arg1 c8_i32
  let c1_i32 : BitVec 32 := 1#32
  let v16 : BitVec 32 := Scalar.subi v1 c1_i32
  let v17 : BitVec 32 := Scalar.select v15 v16 v1
  let v18 : BitVec 32 := Scalar.addi v0 v17
  let c128_i32_656 : BitVec 32 := 128#32
  let v1091 : BitVec 32 := Scalar.muli v18 c128_i32_656
  let v1092 : BitVec 32 := Scalar.addi c0_i32_657 v1091
  ![v1092.toNat]
abbrev grid1 : Pipeline.Grid := ⟨2, ![4, 1], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage1_0 : Fin 2 → Memref sig .tc .vmem S1x2048x1536 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x1x1536 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S4x2048x2048 : Shape := ⟨3, ![4, 2048, 2048]⟩
abbrev S_ : Shape := ⟨0, ![]⟩
abbrev S4x2048 : Shape := ⟨2, ![4, 2048]⟩
abbrev S4x1x2048 : Shape := ⟨3, ![4, 1, 2048]⟩

abbrev nBuf : Space → Nat
  | .hbm => 26
  | .vmem => 0
  | .smem => 0
  | _ => 0

abbrev bufTy : (tb : Table) → Fin (tcTables nBuf tb) → BufTy
  | .hbm, ⟨0, _⟩ => ⟨S4x2048x2048, .f32⟩
  | .hbm, ⟨1, _⟩ => ⟨S_, .f32⟩
  | .hbm, ⟨2, _⟩ => ⟨S_, .f32⟩
  | .hbm, ⟨3, _⟩ => ⟨S_, .f32⟩
  | .hbm, ⟨4, _⟩ => ⟨S4x2048x2048, .f32⟩
  | .hbm, ⟨5, _⟩ => ⟨S4x2048x2048, .f32⟩
  | .hbm, ⟨6, _⟩ => ⟨S_, .f32⟩
  | .hbm, ⟨7, _⟩ => ⟨S4x2048x2048, .f32⟩
  | .hbm, ⟨8, _⟩ => ⟨S4x2048x2048, .f32⟩
  | .hbm, ⟨9, _⟩ => ⟨S_, .f32⟩
  | .hbm, ⟨10, _⟩ => ⟨S4x2048, .f32⟩
  | .hbm, ⟨11, _⟩ => ⟨S_, .f32⟩
  | .hbm, ⟨12, _⟩ => ⟨S4x2048, .f32⟩
  | .hbm, ⟨13, _⟩ => ⟨S4x2048, .f32⟩
  | .hbm, ⟨14, _⟩ => ⟨S4x1x2048, .f32⟩
  | .hbm, ⟨15, _⟩ => ⟨S4x2048x2048, .f32⟩
  | .hbm, ⟨16, _⟩ => ⟨S4x2048x2048, .f32⟩
  | .hbm, ⟨17, _⟩ => ⟨S4x2048x2048, .f32⟩
  | .hbm, ⟨18, _⟩ => ⟨S_, .f32⟩
  | .hbm, ⟨19, _⟩ => ⟨S4x2048, .f32⟩
  | .hbm, ⟨20, _⟩ => ⟨S4x1x2048, .f32⟩
  | .hbm, ⟨21, _⟩ => ⟨S4x2048x2048, .f32⟩
  | .hbm, ⟨22, _⟩ => ⟨S4x2048x2048, .f32⟩
  | .hbm, ⟨23, _⟩ => ⟨S4x2048x2048, .f32⟩
  | .hbm, ⟨24, _⟩ => ⟨S_, .f32⟩
  | .hbm, ⟨25, _⟩ => ⟨S4x2048, .f32⟩
  | _, _ => ⟨S4x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_cst_0 : Ref sig .tc := ⟨.hbm, 2, rfl⟩
abbrev main_call0_v0 : Ref sig .tc := ⟨.hbm, 3, rfl⟩
abbrev main_call0_v1 : Ref sig .tc := ⟨.hbm, 4, rfl⟩
abbrev main_call0_v2 : Ref sig .tc := ⟨.hbm, 5, rfl⟩
abbrev main_call0_v3 : Ref sig .tc := ⟨.hbm, 6, rfl⟩
abbrev main_call0_v4 : Ref sig .tc := ⟨.hbm, 7, rfl⟩
abbrev main_v0 : Ref sig .tc := ⟨.hbm, 8, rfl⟩
abbrev main_cst_1 : Ref sig .tc := ⟨.hbm, 9, rfl⟩
abbrev main_v1 : Ref sig .tc := ⟨.hbm, 10, rfl⟩
abbrev main_cst_2 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst_3 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_cst_4 : Ref sig .tc := ⟨.hbm, 24, rfl⟩
abbrev main_v13 : Ref sig .tc := ⟨.hbm, 25, rfl⟩

abbrev nD : Nat := 1
abbrev τ : Topo := Topo.v7x

variable {F : FTy → Type} [FloatOps F]
-- ==== Proof.Text.lean ====
/-
  The SparseCore kernel's text, written compactly: what one vector subcore runs, as a short program over a few named
  pieces (one trip of a row loop, one 16-lane store, one group of the combination), and the theorem that the printed
  kernel IS that program, by unfolding. Everything proved about the kernel's tasks is proved about the short program.
-/
module

public import proofs.«01_k».proof.Proof.Gen.KernelIdeal
public import proofs.«01_k».proof.Proof.Gen.KernelIdeal.Skeleton

@[expose] public section

noncomputable section

namespace Cert.Proof.Pool

open Cert.KernelIdeal Cert.KernelIdeal.Gen
open Idealize.ShloMosaic
open Idealize.SL Idealize.SL.Sem

variable {F : FTy → Type} [FloatOps F]

/-! ## The buffers a task addresses -/

abbrev xV : Memref sig .scVector .hbm S8192x2048 .f32 := Memref.whole main_v0_scv
abbrev oV : Memref sig .scVector .hbm S2048 .f32 := Memref.whole main_v1_scv
abbrev bufV : Memref sig .scVector .vmem S2x256x128 .f32 := Memref.whole cc0_scratch0
abbrev partV : Memref sig .scVector .vmem S4x256 .f32 := Memref.whole cc0_scratch1
abbrev combV : Memref sig .scVector .vmem S8x4x256 .f32 := Memref.whole cc0_scratch2
abbrev obufV : Memref sig .scVector .vmem S128 .f32 := Memref.whole cc0_scratch3
abbrev shV : Memref sig .scVector .shared S16x4x256 .f32 := Memref.whole cc0_scratch4

/-! ## What is computed on 16 lanes -/

/-- A loaded 1×16 piece as 16 lanes. -/
def lanes (v : Vec F S1x16 .f32) : FVec F S16 .f32 := shapeCast S16 v shapeCasts_S1x16_S16
/-- A loaded 1×1×16 piece as 16 lanes. -/
def lanes3 (v : Vec F S1x1x16 .f32) : FVec F S16 .f32 := shapeCast S16 v shapeCasts_S1x1x16_S16
/-- The weight of an entry, lane by lane: the exponential of the entry cut to [-20, 20], less 20. -/
def weight (x : FVec F S16 .f32) : FVec F S16 .f32 :=
  exp (subf (minimumf (maximumf x (broadcast S16 (Scalar.ofBits .f32 0xC1A00000#32))) (broadcast S16 (Scalar.ofBits .f32 0x41A00000#32)))
    (broadcast S16 (Scalar.ofBits .f32 0x41A00000#32)))
/-- A weight added to a running sum of weights. -/
def addS (a : FVec F S16 .f32) (v : Vec F S1x16 .f32) : FVec F S16 .f32 := addf a (weight (lanes v))
/-- A weighted entry added to a running sum of weighted entries. -/
def addW (a : FVec F S16 .f32) (v : Vec F S1x16 .f32) : FVec F S16 .f32 := addf a (mulf (weight (lanes v)) (lanes v))
def zero16 : FVec F S16 .f32 := broadcast S16 (Scalar.ofBits .f32 0x00000000#32)

/-! ## The pieces of the program -/

section Pieces

variable (L : grid0.Coords)

/-- A task's program. -/
abbrev TProg (α : Type) : Type 1 := Prog (TpuEff nD τ sig (Elt F) Λ₀ (.scVector ((L 0).castLE hcore0) ((L 1).castLE hsub0))) α

/-- What a row loop carries: eight running sums of weights, eight of weighted entries. -/
abbrev Acc (F : FTy → Type) [FloatOps F] : Type :=
  FVec F S16 .f32 × FVec F S16 .f32 × FVec F S16 .f32 × FVec F S16 .f32 × FVec F S16 .f32 × FVec F S16 .f32 × FVec F S16 .f32 × FVec F S16 .f32
    × FVec F S16 .f32 × FVec F S16 .f32 × FVec F S16 .f32 × FVec F S16 .f32 × FVec F S16 .f32 × FVec F S16 .f32 × FVec F S16 .f32 × FVec F S16 .f32

/-- The sixteen sums, from the weights' eight and the weighted entries' eight. -/
def tup (s w : Fin 8 → FVec F S16 .f32) : Acc F := (s 0, s 1, s 2, s 3, s 4, s 5, s 6, s 7, w 0, w 1, w 2, w 3, w 4, w 5, w 6, w 7)

theorem slot_inb (k : Fin 2) : ∀ a, (![k.val, 0, 0] : Fin 3 → ℕ) a + S1x256x128.size a ≤ S2x256x128.size a := by revert k; decide
/-- Slot `k` of the double buffer. -/
abbrev slotM (k : Fin 2) : Memref sig .scVector .vmem S256x128 .f32 :=
  (bufV.slice (Rect.unit (s := S2x256x128) ![k.val, 0, 0] S1x256x128.size (slot_inb k)) (fun _ => rfl)).squeeze S256x128 squeezes_S1x256x128_S256x128
/-- The 256×128 block of the input the task reads for batch `b`. -/
abbrev srcM (b : Fin 4) : Memref sig .scVector .hbm S256x128 .f32 :=
  xV.slice (Rect.unit (s := S8192x2048) (k0_off1 L (BitVec.ofNat 32 (2048 * b.val))) S256x128.size (k0_off1_inb L b)) (fun _ => rfl)

/-- The start of the copy of batch `b`'s block into slot `k`. -/
def fetch (b : Fin 4) (k : Fin 2) (sm : DmaSems sig S_) : TProg (F := F) L PUnit :=
  Prog.lift (.enqueueDma (srcM L b) (.here (slotM k)) (.dma sm.sem) (View.wordExact_bits rfl) ((View.wordExact_bits rfl).reshape _ _) ⟨Or.inl rfl, trivial⟩)
/-- The wait for it. -/
def await (b : Fin 4) (k : Fin 2) (sm : DmaSems sig S_) : TProg (F := F) L PUnit :=
  Prog.lift (.waitDma2 sm.sem (srcM L b) (slotM k) (View.wordExact_bits rfl) ((View.wordExact_bits rfl).reshape _ _))

/-- The row a trip reads, as the kernel computes it. -/
def rowNo (t : Fin k0_t1_loop.trips) : BitVec 32 := Scalar.indexCast (Scalar.addi 0#32 (Scalar.muli (Scf.iv 0#32 1#32 t) 1#32))
theorem rowNo_inb (t : Fin k0_t1_loop.trips) (g : Fin 8) : ∀ a, (![(rowNo t).toNat, 16 * g.val] : Fin 2 → ℕ) a + S1x16.size a ≤ S256x128.size a := by
  have h := k0_off2_inb t
  intro a
  match a with
  | 0 => exact h 0
  | 1 => show 16 * g.val + 16 ≤ 128; omega
/-- 16 lanes of the trip's row: group `g`'s. -/
def readRow (k : Fin 2) (t : Fin k0_t1_loop.trips) (g : Fin 8) : TProg (F := F) L (Vec F S1x16 .f32) :=
  Prog.lift (.load (slotM k) (Rect.unit (s := S256x128) ![(rowNo t).toNat, 16 * g.val] S1x16.size (rowNo_inb t g)).toLoadRect (View.loadsAt_vmem h_S1x16))

/-- One trip of a row loop: the row's eight groups read and added in. -/
def trip (k : Fin 2) (t : Fin k0_t1_loop.trips) (a : Acc F) : TProg (F := F) L (Acc F) := do
  let v0 ← readRow L k t 0
  let v1 ← readRow L k t 1
  let v2 ← readRow L k t 2
  let v3 ← readRow L k t 3
  let v4 ← readRow L k t 4
  let v5 ← readRow L k t 5
  let v6 ← readRow L k t 6
  let v7 ← readRow L k t 7
  let (s0, s1, s2, s3, s4, s5, s6, s7, w0, w1, w2, w3, w4, w5, w6, w7) := a
  pure (addS s0 v0, addS s1 v1, addS s2 v2, addS s3 v3, addS s4 v4, addS s5 v5, addS s6 v6, addS s7 v7,
    addW w0 v0, addW w1 v1, addW w2 v2, addW w3 v3, addW w4 v4, addW w5 v5, addW w6 v6, addW w7 v7)

theorem piece_inb (b : Fin 4) (c : Fin 16) : ∀ a, (![b.val, 16 * c.val] : Fin 2 → ℕ) a + S1x16.size a ≤ S4x256.size a := by
  intro a
  match a with
  | 0 => show b.val + 1 ≤ 4; omega
  | 1 => show 16 * c.val + 16 ≤ 256; omega
/-- Piece `c` of row `b` of the tile's partial sums. -/
abbrev pieceR (b : Fin 4) (c : Fin 16) : Rect S4x256 := Rect.unit (s := S4x256) ![b.val, 16 * c.val] S1x16.size (piece_inb b c)
/-- 16 lanes stored at piece `c` of row `b` (read first, the read value unused). -/
def put (b : Fin 4) (c : Fin 16) (v : FVec F S16 .f32) : TProg (F := F) L PUnit := do
  let _ ← Prog.lift (.load partV (pieceR b c).toLoadRect (View.loadsAt_vmem h_S1x16))
  Prog.lift (.store partV (pieceR b c) (shapeCast S1x16 v shapeCasts_S16_S1x16) Finset.univ (View.stores_vmem_bits_univ h_S1x16 rfl) (.inl rfl))

/-- The sixteen sums stored: row `b` of the partial sums. -/
def putAll (b : Fin 4) (a : Acc F) : TProg (F := F) L PUnit := do
  let (s0, s1, s2, s3, s4, s5, s6, s7, w0, w1, w2, w3, w4, w5, w6, w7) := a
  put L b 0 s0; put L b 8 w0
  put L b 1 s1; put L b 9 w1
  put L b 2 s2; put L b 10 w2
  put L b 3 s3; put L b 11 w3
  put L b 4 s4; put L b 12 w4
  put L b 5 s5; put L b 13 w5
  put L b 6 s6; put L b 14 w6
  put L b 7 s7; put L b 15 w7

/-- One batch: the wait for its block, the row loop over it, the sums stored. -/
def batch (b : Fin 4) (k : Fin 2) (sm : DmaSems sig S_) : TProg (F := F) L PUnit := do
  await L b k sm
  let a ← Scf.Loop.for k0_t1_loop k0_t1_ok (tup (fun _ => zero16) (fun _ => zero16)) (trip L k)
  putAll L b a

/-! ### The exchange through the shared memory -/

/-- The tile's row of the shared memory. -/
abbrev shRowM : Memref sig .scVector .shared S4x256 .f32 :=
  (shV.slice (Rect.unit (s := S16x4x256) (k0_off34 L) S1x4x256.size (k0_off34_inb L)) (fun _ => rfl)).squeeze S4x256 squeezes_S1x4x256_S4x256
/-- The partial sums copied to it, and the wait. -/
def publish : TProg (F := F) L PUnit := do
  Prog.lift (.enqueueDma partV (.here (shRowM L)) (.dma cc0_scoped0.sem) (Memref.isWhole_whole _).wordExact ((View.wordExact_bits rfl).reshape _ _) ⟨Or.inl rfl, trivial⟩)
  Prog.lift (.waitDma2 cc0_scoped0.sem partV (shRowM L) (Memref.isWhole_whole _).wordExact ((View.wordExact_bits rfl).reshape _ _))

/-- The eight rows of the shared memory a combining tile reads. -/
abbrev shGrpM (h : k0_cond1 L = 1#1) : Memref sig .scVector .shared S8x4x256 .f32 :=
  shV.slice (Rect.unit (s := S16x4x256) (k0_off35 L) S8x4x256.size (k0_off35_inb L h)) (fun _ => rfl)
/-- They copied in, and the wait. -/
def collect (h : k0_cond1 L = 1#1) : TProg (F := F) L PUnit := do
  Prog.lift (.enqueueDma (shGrpM L h) (.here combV) (.dma cc0_scoped1.sem) (View.wordExact_bits rfl) (Memref.isWhole_whole _).wordExact ⟨Or.inl rfl, trivial⟩)
  Prog.lift (.waitDma2 cc0_scoped1.sem (shGrpM L h) combV (View.wordExact_bits rfl) (Memref.isWhole_whole _).wordExact)

/-! ### The combination -/

theorem comb_inb (i : Fin 8) (b : Fin 4) (c : Fin 16) : ∀ a, (![i.val, b.val, 16 * c.val] : Fin 3 → ℕ) a + S1x1x16.size a ≤ S8x4x256.size a := by
  intro a
  match a with
  | 0 => show i.val + 1 ≤ 8; omega
  | 1 => show b.val + 1 ≤ 4; omega
  | 2 => show 16 * c.val + 16 ≤ 256; omega
/-- Piece `c` of row `b` of tile `i`'s partial sums. -/
def readPart (i : Fin 8) (b : Fin 4) (c : Fin 16) : TProg (F := F) L (Vec F S1x1x16 .f32) :=
  Prog.lift (.load combV (Rect.unit (s := S8x4x256) ![i.val, b.val, 16 * c.val] S1x1x16.size (comb_inb i b c)).toLoadRect (View.loadsAt_vmem h_S1x1x16))

/-- Group `g`'s piece of the weights' sums, -/
abbrev cS (g : Fin 8) : Fin 16 := ⟨g.val, by omega⟩
/-- and of the weighted entries'. -/
abbrev cW (g : Fin 8) : Fin 16 := ⟨8 + g.val, by omega⟩

/-- Tile `i`'s two pieces added in. -/
def addIn (b : Fin 4) (g : Fin 8) (i : Fin 8) (p : FVec F S16 .f32 × FVec F S16 .f32) : TProg (F := F) L (FVec F S16 .f32 × FVec F S16 .f32) := do
  let s ← readPart L i b (cS g)
  let w ← readPart L i b (cW g)
  pure (addf p.1 (lanes3 s), addf p.2 (lanes3 w))

theorem out_inb (g : Fin 8) : ∀ a, (![16 * g.val] : Fin 1 → ℕ) a + S16.size a ≤ S128.size a := by
  intro a
  match a with
  | 0 => show 16 * g.val + 16 ≤ 128; omega
abbrev outR (g : Fin 8) : Rect S128 := Rect.unit (s := S128) ![16 * g.val] S16.size (out_inb g)
/-- The quotient of two sums, stored at group `g` (read first, the read value unused). -/
def putOut (g : Fin 8) (p : FVec F S16 .f32 × FVec F S16 .f32) : TProg (F := F) L PUnit := do
  let _ ← Prog.lift (.load obufV (outR g).toLoadRect (View.loadsAt_vmem h_S16))
  Prog.lift (.store obufV (outR g) (shapeCast S16 (divf p.2 p.1) shapeCasts_S16_S16) Finset.univ (View.stores_vmem_bits_univ h_S16 rfl) (.inl rfl))

/-- One group of one batch: the eight tiles' pieces summed, the quotient stored. -/
def group (b : Fin 4) (g : Fin 8) : TProg (F := F) L PUnit := do
  let s ← readPart L 0 b (cS g)
  let w ← readPart L 0 b (cW g)
  let p ← addIn L b g 1 (lanes3 s, lanes3 w)
  let p ← addIn L b g 2 p
  let p ← addIn L b g 3 p
  let p ← addIn L b g 4 p
  let p ← addIn L b g 5 p
  let p ← addIn L b g 6 p
  let p ← addIn L b g 7 p
  putOut L g p

/-- The 128 results of batch `b` this tile writes. -/
abbrev dstM (h : k0_cond1 L = 1#1) (b : Fin 4) : Memref sig .scVector .hbm S128 .f32 :=
  oV.slice (Rect.unit (s := S2048) (k0_off36 L (BitVec.ofNat 32 (512 * b.val))) S128.size (k0_off36_inb L h b)) (fun _ => rfl)
/-- They copied out, and the wait. -/
def emit (h : k0_cond1 L = 1#1) (b : Fin 4) : TProg (F := F) L PUnit := do
  Prog.lift (.enqueueDma obufV (.here (dstM L h b)) (.dma cc0_scratch7.sem) (Memref.isWhole_whole _).wordExact (View.wordExact_bits rfl) ⟨Or.inl rfl, trivial⟩)
  Prog.lift (.waitDma2 cc0_scratch7.sem obufV (dstM L h b) (Memref.isWhole_whole _).wordExact (View.wordExact_bits rfl))

/-- One batch combined and written. -/
def outBatch (h : k0_cond1 L = 1#1) (b : Fin 4) : TProg (F := F) L PUnit := do
  group L b 0
  group L b 1
  group L b 2
  group L b 3
  group L b 4
  group L b 5
  group L b 6
  group L b 7
  emit L h b

/-- A combining tile's second half. -/
def combine (h : k0_cond1 L = 1#1) : TProg (F := F) L PUnit := do
  collect L h
  outBatch L h 0
  outBatch L h 1
  outBatch L h 2
  outBatch L h 3

/-- The tile's first half: its four blocks summed, two copies ahead. -/
def sums : TProg (F := F) L PUnit := do
  fetch L 0 0 cc0_scratch5
  fetch L 1 1 cc0_scratch6
  batch L 0 0 cc0_scratch5
  fetch L 2 0 cc0_scratch5
  batch L 1 1 cc0_scratch6
  fetch L 3 1 cc0_scratch6
  batch L 2 0 cc0_scratch5
  batch L 3 1 cc0_scratch6

/-- The whole of a tile's program. -/
def tile : TProg (F := F) L PUnit := do
  sums L
  publish L
  SparseCore.subcoreBarrier sc_bar0 (grid0.bound 1) hsub0
  if h : k0_cond1 L = 1#1 then combine L h else pure ⟨⟩
  pure ⟨⟩

end Pieces

end Cert.Proof.Pool

end
-- ==== Proof.Values.lean ====
/-
  What the SparseCore kernel's tasks compute, as functions of the input array `x` (the 8192×2048 array the call is given):
  the block a task reads for a batch, the running sums over its rows, the partial sums a task hands over, the results.
-/
module

public import proofs.«01_k».proof.Proof.Text
public import Idealize.ShloMosaic.Lib.ValueIdx

@[expose] public section

noncomputable section

namespace Cert.Proof.Pool

open Cert.KernelIdeal Cert.KernelIdeal.Gen
open Idealize.ShloMosaic
open Idealize.SL Idealize.SL.Sem
open Idealize.ShloMosaic.ValueIdx

variable {F : FTy → Type} [FloatOps F]

/-- The input array's contents, -/
abbrev XBuf (F : FTy → Type) : Type := S8192x2048.Idx → Elt F .f32
/-- and a block's. -/
abbrev Blk (F : FTy → Type) : Type := S256x128.Idx → Elt F .f32

/-- The block task `L` reads for batch `b`. -/
def blk (x : XBuf F) (L : grid0.Coords) (b : Fin 4) : Blk F := (srcM L b).view.read (Elt F) x

/-- Group `g`'s 16 lanes of row `t` of a block. -/
def rowV (B : Blk F) (t : Fin k0_t1_loop.trips) (g : Fin 8) : Vec F S1x16 .f32 :=
  fun j => B ((Rect.unit (s := S256x128) ![(rowNo t).toNat, 16 * g.val] S1x16.size (rowNo_inb t g)).emb j)

/-- Group `g`'s sum of weights over a block's first `n` rows. -/
def accS (B : Blk F) (g : Fin 8) : ℕ → FVec F S16 .f32
  | 0 => zero16
  | n + 1 => if h : n < k0_t1_loop.trips then addS (accS B g n) (rowV B ⟨n, h⟩ g) else accS B g n
/-- Group `g`'s sum of weighted entries over a block's first `n` rows. -/
def accW (B : Blk F) (g : Fin 8) : ℕ → FVec F S16 .f32
  | 0 => zero16
  | n + 1 => if h : n < k0_t1_loop.trips then addW (accW B g n) (rowV B ⟨n, h⟩ g) else accW B g n

theorem accS_step (B : Blk F) (g : Fin 8) (t : Fin k0_t1_loop.trips) : accS B g (t.val + 1) = addS (accS B g t.val) (rowV B t g) := dif_pos t.isLt
theorem accW_step (B : Blk F) (g : Fin 8) (t : Fin k0_t1_loop.trips) : accW B g (t.val + 1) = addW (accW B g t.val) (rowV B t g) := dif_pos t.isLt

/-- The sums after `n` rows, all sixteen. -/
def accAll (B : Blk F) (n : ℕ) : Acc F := tup (fun g => accS B g n) (fun g => accW B g n)

/-- Piece `c` of a block's row of partial sums: a group's sum of weights, or of weighted entries. -/
def sumV (B : Blk F) (c : Fin 16) : FVec F S16 .f32 :=
  if h : c.val < 8 then accS B ⟨c.val, h⟩ k0_t1_loop.trips else accW B ⟨c.val - 8, by omega⟩ k0_t1_loop.trips

/-- Position `y` of a row of 256, as a piece and a lane. -/
abbrev pc (y : Fin 256) : Fin 16 := ⟨y.val / 16, by omega⟩
abbrev ln (y : Fin 256) : S16.Idx := ix1 ⟨y.val % 16, Nat.mod_lt _ (by decide)⟩

/-- Task `L`'s partial sums: row `b` the sums over batch `b`'s block. -/
def partVal (x : XBuf F) (L : grid0.Coords) : S4x256.Idx → Elt F .f32 :=
  fun y => sumV (blk x L (y 0)) (pc (y 1)) (ln (y 1))

/-- A task's coordinates: the SparseCore and the tile. -/
def coordsV (c : Fin (grid0.bound 0)) (s : Fin (grid0.bound 1)) : grid0.Coords :=
  fun | 0 => c | 1 => s | ⟨_ + 2, h⟩ => absurd h (Nat.not_lt.2 (Nat.le_add_left _ _))

/-- SparseCore `c`'s shared memory once every task has handed over: row `i` task `i`'s partial sums. -/
def shVal (x : XBuf F) (c : Fin 2) : S16x4x256.Idx → Elt F .f32 :=
  fun y => partVal x (coordsV c (y 0)) (ix2 (y 1) (y 2))

/-- Sum over the first `n + 1` of the eight tasks of a group of `f`'s lanes. -/
def total (f : Fin 8 → FVec F S16 .f32) : ℕ → FVec F S16 .f32
  | 0 => f 0
  | n + 1 => if h : n + 1 < 8 then addf (total f n) (f ⟨n + 1, h⟩) else total f n

/-- Row `8 k + i` among the tiles of a SparseCore. -/
abbrev tileNo (k : Fin 2) (i : Fin 8) : Fin (grid0.bound 1) := ⟨8 * k.val + i.val, by show _ < 16; omega⟩

/-- Batch `b`'s 128 results of the tasks `8 k, …, 8 k + 7` of SparseCore `c`, group `g`'s lanes. -/
def quotV (x : XBuf F) (c : Fin 2) (k : Fin 2) (b : Fin 4) (g : Fin 8) : FVec F S16 .f32 :=
  divf (total (fun i => sumV (blk x (coordsV c (tileNo k i)) b) (cW g)) 7) (total (fun i => sumV (blk x (coordsV c (tileNo k i)) b) (cS g)) 7)

/-- The 128 results together. -/
def resV (x : XBuf F) (c : Fin 2) (k : Fin 2) (b : Fin 4) : S128.Idx → Elt F .f32 :=
  fun j => quotV x c k b ⟨(j 0).val / 16, by have : (j 0).val < 128 := (j 0).isLt; omega⟩ (ix1 ⟨(j 0).val % 16, Nat.mod_lt _ (by decide)⟩)

/-- All the call's results: batch `p / 512`, SparseCore `p % 512 / 256`, its half `p % 256 / 128`. -/
def outVal (x : XBuf F) : S2048.Idx → Elt F .f32 :=
  fun p => resV x ⟨(p 0).val % 512 / 256, by omega⟩ ⟨(p 0).val % 256 / 128, by omega⟩ ⟨(p 0).val / 512, by have : (p 0).val < 2048 := (p 0).isLt; omega⟩
    (ix1 ⟨(p 0).val % 128, Nat.mod_lt _ (by decide)⟩)

end Cert.Proof.Pool

end
-- ==== Proof.Setup.lean ====
/-
  The launch as the launch theorem sees it: the program's configuration, the ghost state, the subcore barrier's schedule
  (what each task hands the combining task of its group) and what the handshakes carry.
-/
module

public import proofs.«01_k».proof.Defs
public import proofs.«01_k».proof.Proof.Values
public import proofs.«01_k».proof.Proof.Gen.KernelIdeal.Launch
public import Idealize.ShloMosaic.Lib.SparseCore.Quiescent
public import Idealize.ShloMosaic.Lib.SparseCore.Ops
public import Idealize.ShloMosaic.Lib.StableHlo.Run
public import Idealize.ShloMosaic.Lib.Pipeline.Kit
public import Idealize.ShloMosaic.Lib.Pipeline.Regions
public import Idealize.ShloMosaic.Lib.Tactic

@[expose] public section

noncomputable section

namespace Cert.Proof.Pool

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

/-! ## The program as the launch theorem sees it -/

abbrev ΛP : Labels := Pipeline.Sig Λ₀ (Fin 1) fun p => (pcfgs (F := F) p).Adm
abbrev K : SparseCore.Cfg τ sig (ΛP (F := F)) 1 := sc (F := F)
/-- The SparseCore of the call's core number `c`. -/
abbrev coreOf (c : Fin ((K (F := F)).nCore 0)) : Fin τ.nSC := (K (F := F)).core 0 c
abbrev D : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The ghost state: the handshakes' rounds, the barrier cells', the TensorCore pipeline's, the transfers' counters -/

abbrev UH : Type := URounds (GSem nD τ sig) ℕ
abbrev UB : Type := URounds (GSem nD τ sig) ℕ
abbrev UP : Type := URounds (GSem nD τ sig) Unit
abbrev UU : Type := UH × (UB × (UP × Counters))

local notation "𝕄" => MT nD τ sig (HIx 1) (Elt F) ℕ UU ℕ

abbrev EH : Emb UH (MT nD τ sig (HIx 1) (Elt F) ℕ UU ℕ) := embL
/-- The barrier cells' rounds, -/
def EB : Emb UB (MT nD τ sig (HIx 1) (Elt F) ℕ UU ℕ) :=
  ((Emb.inl : Emb UB (UB × (UP × Counters))).trans (Emb.inr : Emb (UB × (UP × Counters)) UU)).trans
    (uEmb (nD := nD) (sig := sig) (Ix := HIx 1) (Val := Elt F) (Name := ℕ) (U := UU) (Lvl := ℕ)).toEmb
instance EB_landsIn : (EB : Emb UB 𝕄).LandsIn (upEmb : UEmb _ 𝕄) := by unfold EB; infer_instance
/-- and the pipeline's. -/
def EP : Emb UP (MT nD τ sig (HIx 1) (Elt F) ℕ UU ℕ) :=
  (((Emb.inl : Emb UP (UP × Counters)).trans (Emb.inr : Emb (UP × Counters) (UB × (UP × Counters)))).trans (Emb.inr : Emb (UB × (UP × Counters)) UU)).trans
    (uEmb (nD := nD) (sig := sig) (Ix := HIx 1) (Val := Elt F) (Name := ℕ) (U := UU) (Lvl := ℕ)).toEmb
instance EP_landsIn : (EP : Emb UP 𝕄).LandsIn (upEmb : UEmb _ 𝕄) := by unfold EP; infer_instance

/-! ## The buffers, and how they are shared out -/

variable (m : (ℓ : Loc nD τ sig) → Buf (Elt F) ℓ) (X : Dev nD → XBuf F) (ρ : Dev nD → PrngReg)

abbrev xLoc (d : Dev nD) : Loc nD τ sig := (SparseCore.T d).loc main_v0
abbrev oLoc (d : Dev nD) : Loc nD τ sig := (SparseCore.T d).loc main_v1

/-- SparseCore `c`'s shared memory, as every tile of it addresses it. -/
abbrev shRef (c : Fin τ.nSC) : DevRef τ sig := ⟨.shared, ⟨0, by decide⟩, c⟩
abbrev shLoc (d : Dev nD) (c : Fin τ.nSC) : Loc nD τ sig := (d, shRef c)

/-- The results SparseCore `c` computes, -/
def oC (c : ℕ) : Finset S2048.Idx := Finset.univ.filter fun p => (p 0).val % 512 / 256 = c
/-- and those its tile `i` writes: none unless `i` is 0 or 8. -/
def oT (c i : ℕ) : Finset S2048.Idx := Finset.univ.filter fun p => (p 0).val % 512 / 256 = c ∧ 8 * ((p 0).val % 256 / 128) = i
/-- Row `i` of the shared memory, -/
def shR (i : ℕ) : Finset S16x4x256.Idx := Finset.univ.filter fun y => (y 0).val = i
/-- and the rows tile `i` reads: none unless `i` is 0 or 8. -/
def shG (i : ℕ) : Finset S16x4x256.Idx := Finset.univ.filter fun y => 8 * ((y 0).val / 8) = i

/-- The input's read shares: a SparseCore's, -/
def qC (c : Fin 2) : PosShare TreeShare := Transfers.dealOf fullShare Finset.univ c
/-- and a tile's. -/
def qT (c : Fin 2) (i : Fin 16) : PosShare TreeShare := Transfers.dealOf (qC c) Finset.univ i

/-! ## The barrier cells -/

/-- Tile `(c, j)`'s barrier semaphore of device `d`. -/
abbrev bcell (d : Dev nD) (c : Fin τ.nSC) (j : Fin τ.nSub) : GSem nD τ sig := (V d c j, .reg sc_bar0)

omit [FloatOps F] in
theorem sc_bar0_ne_go : (sc_bar0 : Sem sig) ≠ sc_go := by decide

def isBar (g : GSem nD τ sig) : Bool :=
  match g with
  | ((_, .scVector _ _), sm) => decide (sm = .reg sc_bar0)
  | _ => false

@[simp] theorem isBar_bcell (d : Dev nD) (c : Fin τ.nSC) (j : Fin τ.nSub) : isBar (bcell d c j) = true := by simp [isBar]

/-- Row `i` of the shared memory, handed over. -/
abbrev shRowPts (d : Dev nD) (c : Fin τ.nSC) (i : ℕ) (f : Buf (Elt F) (shLoc d c)) : sProp 𝕄 := shLoc d c ↦[shR i]{fullShare} f

/-- What task `n`'s duty in tile `j`'s round hands over: its row of partial sums, if `j` combines `n`'s group; else nothing. -/
def bPay (g : GSem nD τ sig) (n : ℕ) : sProp 𝕄 :=
  match g with
  | ((d, .scVector c j), _) => if 8 * (n / 8) = j.val then shRowPts d c n (shVal (X d) c) else iprop(emp)
  | _ => iprop(emp)

/-- The barrier cells' schedule: one round on each, of one unit duty per tile of the SparseCore (named by its number). -/
def bRd : Rounds.Schedule (GSem nD τ sig) ℕ 𝕄 where
  duties g r := if isBar g ∧ r = 0 then (Finset.univ : Finset (Fin τ.nSub)).image Fin.val else ∅
  amount _ _ _ := 1
  payload g _ n := bPay X g n
  amount_pos _ _ _ _ := Nat.one_pos

instance bRd_payload_storable (g : GSem nD τ sig) (r n : ℕ) : BI.Storable (upEmb : UEmb _ 𝕄) ((bRd X).payload g r n) := by
  show BI.Storable upEmb (bPay X g n)
  unfold bPay
  rcases g with ⟨⟨d, _ | c | ⟨c, i⟩⟩, sm⟩ <;> dsimp only <;> (repeat' split) <;> infer_instance

theorem bRd_duties₀ (d : Dev nD) (c : Fin τ.nSC) (j : Fin τ.nSub) : (bRd X).duties (bcell d c j) 0 = (Finset.univ : Finset (Fin τ.nSub)).image Fin.val := by
  simp [bRd, isBar]
theorem bRd_duties_succ (g : GSem nD τ sig) (r : ℕ) (hr : 1 ≤ r) : (bRd X).duties g r = ∅ :=
  if_neg fun h => absurd h.2 (Nat.ne_of_gt hr)
theorem bRd_mem₀ (d : Dev nD) (c : Fin τ.nSC) (j i : Fin τ.nSub) : i.val ∈ (bRd X).duties (bcell d c j) 0 := by
  rw [bRd_duties₀]; exact Finset.mem_image_of_mem _ (Finset.mem_univ i)
theorem bRd_expect (d : Dev nD) (c : Fin τ.nSC) (j : Fin τ.nSub) : 0 + grid0.bound 1 = (bRd X).expect (bcell d c j) 0 := by
  unfold Rounds.Schedule.expect; rw [bRd_duties₀]
  show 0 + 16 = ∑ x ∈ (Finset.univ : Finset (Fin 16)).image Fin.val, 1
  rw [Finset.sum_const, Finset.card_image_of_injective _ Fin.val_injective]; rfl

/-- What the launch has a tile of SparseCore `c` owe for the barrier: a unit on every tile's cell of its SparseCore, at the
    call's index. -/
def oxV (d : Dev nD) (c : Fin τ.nSC) : CellTallies nD τ sig (HIx 1) := ∑ j : Fin (grid0.bound 1), tallyAt (bcell d c (j.castLE hsub0)) (some 0) 1

theorem oxV_none (d : Dev nD) (c : Fin τ.nSC) (g : GSem nD τ sig) : oxV d c g none = 0 := by
  unfold oxV
  rw [Finset.sum_apply, Finsupp.finsetSum_apply]
  exact Finset.sum_eq_zero fun j _ => by rw [tallyAt_apply, if_neg (fun e => nomatch e.2)]

theorem oxV_apply_pos {d : Dev nD} {c : Fin τ.nSC} {g : GSem nD τ sig} {ι : HIx 1} (h : 0 < oxV d c g ι) : ∃ j : Fin (grid0.bound 1), g = bcell d c (j.castLE hsub0) ∧ ι = some 0 := by
  unfold oxV at h
  rw [Finset.sum_apply, Finsupp.finsetSum_apply] at h
  obtain ⟨j, -, hj⟩ := Finset.exists_ne_zero_of_sum_ne_zero (Nat.pos_iff_ne_zero.mp h)
  rw [tallyAt_apply] at hj
  split at hj
  · next e => exact ⟨j, e.1, e.2⟩
  · exact absurd rfl hj

/-- Tile `(c, i)`'s barrier kit: every tile's cell invariant of its SparseCore and that each has reached round 0, its own
    position at the origin of round 0, its duty token in every tile's round 0, and the credit for the units of its own round. -/
def bkit (d : Dev nD) (c : Fin τ.nSC) (i : Fin τ.nSub) : sProp 𝕄 :=
  iprop((∃ κ : GSem nD τ sig → ℕ, bigSep Finset.univ fun j : Fin (grid0.bound 1) =>
      cellInv EB (bRd X) (κ (bcell d c (j.castLE hsub0))) (bcell d c (j.castLE hsub0)))
    ∗ (bigSep Finset.univ fun j : Fin (grid0.bound 1) => dutyTok EB (bcell d c (j.castLE hsub0)) 0 i.val)
    ∗ (bigSep Finset.univ fun j : Fin (grid0.bound 1) => reached EB (bcell d c (j.castLE hsub0)) 0)
    ∗ atPos EB (bcell d c i) 0 ∅ 0
    ∗ cred (tallyAt (bcell d c i) (some 0) (grid0.bound 1)))

/-! ## What the handshakes carry -/

/-- The barrier semaphores of the tasks of SparseCore `c`, at zero. -/
abbrev bars (d : Dev nD) (c : Fin ((K (F := F)).nCore 0)) : sProp 𝕄 :=
  bigSep Finset.univ fun i : Fin ((K (F := F)).nSub 0) => semVal (bcell d (coreOf c) ((K (F := F)).sub 0 i)) 0

/-- What SparseCore `c` is handed and hands back: its read share of the input, its results at contents `f`. -/
abbrev coreP (d : Dev nD) (c : Fin 2) (f : Buf (Elt F) (oLoc d)) : sProp 𝕄 :=
  iprop((xLoc d ↦{qC c} X d) ∗ oLoc d ↦[oC c.val]{fullShare} f)
/-- What tile `i` of it is handed: its read share, the results it will write, its row of the shared memory, -/
abbrev tileIn (d : Dev nD) (c : Fin 2) (i : Fin 16) : sProp 𝕄 :=
  iprop((xLoc d ↦{qT c i} X d) ∗ (oLoc d ↦[oT c.val i.val]{fullShare} m (oLoc d)) ∗ ∃ f, shRowPts d c i.val f)
/-- and what it hands back: the results written, and the rows of the shared memory it read. -/
abbrev tileOut (d : Dev nD) (c : Fin 2) (i : Fin 16) : sProp 𝕄 :=
  iprop((xLoc d ↦{qT c i} X d) ∗ (oLoc d ↦[oT c.val i.val]{fullShare} outVal (X d)) ∗ ∃ f, (shLoc d c ↦[shG i.val]{fullShare} f))

set_option backward.proofsInPublic true in
/-- The one call's payments. -/
def P : (K (F := F)).Pay (nD := nD) (Val := Elt F) (Name := ℕ) (U := UU) where
  st := fun q d c => match q with | 0 => coreP X d c (m (oLoc d))
  dn := fun q d c => match q with | 0 => iprop(coreP X d c (outVal (X d)) ∗ bars d c)
  go := fun q d c i => match q with | 0 => tileIn m X d c i
  td := fun q d c i => match q with | 0 => iprop(tileOut X d c i ∗ semVal (bcell d (coreOf c) ((K (F := F)).sub 0 i)) 0)
  x := fun _ thr => match thr with
    | (d, .scVector c i) => bkit X d c i
    | _ => iprop(emp)
  ox := fun _ thr => match thr with
    | (d, .scVector c _) => oxV d c
    | _ => 0
  ox_band := by
    intro q thr g ι h
    obtain rfl : q = 0 := Subsingleton.elim _ _
    rcases thr with ⟨d, _ | c | ⟨c, i⟩⟩
    · exact absurd h (lt_irrefl 0)
    · exact absurd h (lt_irrefl 0)
    · obtain ⟨j, rfl, rfl⟩ := oxV_apply_pos h
      rw [(K (F := F)).lev_V_reg d c (j.castLE hsub0) (show (sc_bar0 : Sem sig) ≠ (K (F := F)).go from sc_bar0_ne_go)]; exact ⟨le_rfl, by decide⟩
  ox_tc := fun _ _ => rfl
  ox_sc := fun _ _ _ h => absurd rfl h
  ox_vc := by
    intro q d c i _
    obtain rfl : q = 0 := Subsingleton.elim _ _
    exact ⟨rfl, c.isLt, i.isLt⟩

instance P_storable : (P m X).IsStorable where
  st q d c := match q with
    | 0 => (inferInstance : BI.Storable (upEmb : UEmb _ 𝕄) (coreP X d c (m (oLoc d))))
  dn q d c := match q with
    | 0 => (inferInstance : BI.Storable (upEmb : UEmb _ 𝕄) iprop(coreP X d c (outVal (X d)) ∗ bars d c))
  go q d c i := match q with
    | 0 => (inferInstance : BI.Storable (upEmb : UEmb _ 𝕄) (tileIn m X d c i))
  td q d c i := match q with
    | 0 => (inferInstance : BI.Storable (upEmb : UEmb _ 𝕄) iprop(tileOut X d c i ∗ semVal _ 0))

end Cert.Proof.Pool

end
-- ==== Proof.TileSums.lean ====
/-
  A task's first half, and its hand-over: each piece of the short program run once, at a symbolic batch, slot, row or piece,
  then the four batches, then the copy of the partial sums to the shared memory.
-/
module

public import proofs.«01_k».proof.Proof.Setup
public import Idealize.ShloMosaic.Lib.SparseCore.FromWhole
public import Idealize.ShloMosaic.Lib.Scf
public import Idealize.ShloMosaic.Lib.ValueLayout

@[expose] public section

noncomputable section

namespace Cert.Proof.Pool

open Cert.KernelIdeal Cert.KernelIdeal.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

variable (m : (ℓ : Loc nD τ sig) → Buf (Elt F) ℓ) (X : Dev nD → XBuf F)

section Tile

variable (d : Dev nD) (L : grid0.Coords)

abbrev cV (L : grid0.Coords) : Fin τ.nSC := (L 0).castLE hcore0
abbrev jV (L : grid0.Coords) : Fin τ.nSub := (L 1).castLE hsub0
/-- The task's thread. -/
abbrev thr (d : Dev nD) (L : grid0.Coords) : Thread nD τ := V d (cV L) (jV L)
/-- A task's program runs to `Q`. -/
abbrev Run {α : Type} (p : TProg (F := F) L α) (Q : α → sProp 𝕄) : sProp 𝕄 := wp frame (wpE (defs₀ (F := F)) 𝒱₀ (thr d L) none) Set.univ p Q

abbrev bufL : Loc nD τ sig := (thr d L).loc cc0_scratch0
abbrev partL : Loc nD τ sig := (thr d L).loc cc0_scratch1
abbrev combL : Loc nD τ sig := (thr d L).loc cc0_scratch2
abbrev obufL : Loc nD τ sig := (thr d L).loc cc0_scratch3

abbrev EC : UEmb Counters 𝕄 := countersEmb

/-! ## The double buffer's slots -/

/-- Slot `k`'s elements. -/
def slotS (k : Fin 2) : Finset S2x256x128.Idx := Finset.univ.filter fun y => (y 0).val = k.val

theorem slot_sub (k : Fin 2) : (slotM k).view.set ⊆ slotS k := by
  intro y hy
  obtain ⟨j, -, rfl⟩ := Finset.mem_map.mp hy
  refine Finset.mem_filter.mpr ⟨Finset.mem_univ _, ?_⟩
  have h : ((Shape.reshapeEquiv squeezes_S1x256x128_S256x128.numel_eq j) 0).val < 1 := ((Shape.reshapeEquiv squeezes_S1x256x128_S256x128.numel_eq j) 0).isLt
  show k.val + 1 * ((Shape.reshapeEquiv squeezes_S1x256x128_S256x128.numel_eq j) 0).val = k.val
  omega

/-- Slot `k` at contents `f` of the double buffer. -/
abbrev slotP (k : Fin 2) (f : Buf (Elt F) (bufL d L)) : sProp 𝕄 := bufL d L ↦[slotS k]{fullShare} f
/-- Slot `k` holding block `B`. -/
abbrev slotH (k : Fin 2) (B : Blk F) : sProp 𝕄 := iprop(∃ f, ⌜(slotM k).view.read (Elt F) f = B⌝ ∗ slotP d L k f)

/-- The owed units, over recorded waits that extend `W` by waits at the transfers' index or at the call's. -/
abbrev owesX (O : CellTallies nD τ sig (HIx 1)) (W : Waits sig (HIx 1)) : sProp 𝕄 :=
  iprop(∃ W', ⌜∀ p ∈ W', p ∈ W ∨ p.2 = none ∨ p.2 = some (0 : Fin 1)⌝ ∗ owes (thr d L) O W')

abbrev semP (sm : DmaSems sig S_) : sProp 𝕄 := semVal (thr d L, .dma sm.sem) 0
abbrev mayP (O : CellTallies nD τ sig (HIx 1)) : sProp 𝕄 := Transfers.MayWaits (thr d L) (default : HIx 1) O

/-- The copy of batch `b`'s block into slot `k`, under way. -/
def flightP (b : Fin 4) (k : Fin 2) (sm : DmaSems sig S_) (q : PosShare TreeShare) : sProp 𝕄 :=
  Transfers.Flight EC (thr d L) (.dma sm.sem) (default : HIx 1) (slotM k).view.dmaCredit
    iprop(slotH d L k (blk (X d) L b) ∗ xLoc d ↦{q} X d)

/-- Starting a copy. -/
theorem run_fetch (b : Fin 4) (k : Fin 2) (sm : DmaSems sig S_) (q : PosShare TreeShare) (f : Buf (Elt F) (bufL d L)) (Q : PUnit → sProp 𝕄) :
    iprop((xLoc d ↦{q} X d) ∗ slotP d L k f ∗ semP d L sm) ⊢ iprop((flightP X d L b k sm q -∗ Q ⟨⟩) -∗ Run d L (fetch L b k sm) Q) := by
  unfold fetch Prog.lift
  iintro ⟨Hx, Hs, Hv⟩ HQ
  iapply (Transfers.wp_dmaFromWhole EC 𝒱₀ (thr d L) none (default : HIx 1) (slotM k).view.dmaCredit (src := srcM L b) (dst := slotM k)
    (fs := X d) (Sd := slotS k) (fd := f) rfl (View.dmaCredit_pos _ (by decide)) (slot_sub k)) $$ [Hx Hs Hv]
  · isplitl [Hx]; · iexact Hx
    isplitl [Hs] <;> iassumption
  iintro Hfl
  iapply (le_wp_ret)
  iapply HQ
  unfold flightP
  iapply (Transfers.Flight_mono EC (thr d L) ?_) $$ Hfl
  refine sep_mono_left ?_
  iintro H
  iexists _
  isplitr; swap; · iexact H
  ipureintro
  exact View.read_write_univ _ _

/-- Waiting for it. -/
theorem run_await (b : Fin 4) (k : Fin 2) (sm : DmaSems sig S_) (q : PosShare TreeShare) (O : CellTallies nD τ sig (HIx 1)) (W : Waits sig (HIx 1)) (Q : PUnit → sProp 𝕄) :
    iprop(flightP X d L b k sm q ∗ mayP d L O ∗ owesX d L O W)
      ⊢ iprop((iprop(slotH d L k (blk (X d) L b) ∗ (xLoc d ↦{q} X d) ∗ semP d L sm ∗ owesX d L O W) -∗ Q ⟨⟩) -∗ Run d L (await L b k sm) Q) := by
  unfold await Prog.lift flightP
  iintro ⟨Hfl, Hmw, %W', %hW', HO⟩ HQ
  iapply (Transfers.wp_waitLocalO EC 𝒱₀ (thr d L) none (default : HIx 1) (dstw := slotM k) (srcw := srcM L b) rfl) $$ [Hfl Hmw HO]
  · isplitl [Hfl]; · iexact Hfl
    isplitl [HO]; · iexact HO
    iapply (Transfers.MayWaits.elim (SemLoc.dma sm.sem)); iexact Hmw
  iintro ⟨⟨Hs, Hx⟩, Hv, HO⟩
  iapply (le_wp_ret)
  iapply HQ
  isplitl [Hs]; · iexact Hs
  isplitl [Hx]; · iexact Hx
  isplitl [Hv]; · iexact Hv
  iexists _
  isplitr; swap; · iexact HO
  ipureintro
  intro p hp
  rcases Finset.mem_insert.mp hp with rfl | hp
  · exact .inr (.inl rfl)
  · exact hW' p hp

/-! ## The row loop -/

/-- Group `g`'s 16 lanes of a trip's row. -/
abbrev rowR (t : Fin k0_t1_loop.trips) (g : Fin 8) : Rect S256x128 := Rect.unit (s := S256x128) ![(rowNo t).toNat, 16 * g.val] S1x16.size (rowNo_inb t g)

theorem rowR_sub (k : Fin 2) (t : Fin k0_t1_loop.trips) (g : Fin 8) : ((slotM k).access (rowR t g)).set ⊆ slotS k := by
  refine Finset.Subset.trans (fun y hy => ?_) (slot_sub k)
  obtain ⟨j, -, rfl⟩ := Finset.mem_map.mp hy
  exact Finset.mem_map_of_mem _ (Finset.mem_univ ((rowR t g).emb j))

/-- Reading 16 lanes of a row. -/
theorem run_readRow (k : Fin 2) (t : Fin k0_t1_loop.trips) (g : Fin 8) (f : Buf (Elt F) (bufL d L)) (Q : Vec F S1x16 .f32 → sProp 𝕄) :
    slotP d L k f ⊢ iprop((slotP d L k f -∗ Q (rowV ((slotM k).view.read (Elt F) f) t g)) -∗ Run d L (readRow L k t g) Q) := by
  unfold readRow Prog.lift
  iintro H HQ
  iapply (wp_load_rect 𝒱₀ (thr d L) none Set.univ (m := slotM k) (r := rowR t g) (S := slotS k) (rowR_sub k t g)) $$ H
  iintro H
  iapply (le_wp_ret)
  ihave HQ' := HQ $$ H
  iapply (Entails.of_eq (congrArg Q (show ((slotM k).access (rowR t g)).read (Elt F) f = rowV ((slotM k).view.read (Elt F) f) t g from rfl)).symm)
  iexact HQ'

/-- One trip: the row added to the sums. -/
theorem run_trip (k : Fin 2) (B : Blk F) (t : Fin k0_t1_loop.trips) (a : Acc F) :
    iprop(⌜a = accAll B t.val⌝ ∗ slotH d L k B) ⊢ Run d L (trip L k t a) fun a' => iprop(⌜a' = accAll B (t.val + 1)⌝ ∗ slotH d L k B) := by
  unfold trip
  simp only [wp_bind]
  iintro ⟨%ha, %f, %hf, H⟩
  subst ha hf
  iapply (run_readRow d L k t 0 f) $$ H; iintro H
  iapply (run_readRow d L k t 1 f) $$ H; iintro H
  iapply (run_readRow d L k t 2 f) $$ H; iintro H
  iapply (run_readRow d L k t 3 f) $$ H; iintro H
  iapply (run_readRow d L k t 4 f) $$ H; iintro H
  iapply (run_readRow d L k t 5 f) $$ H; iintro H
  iapply (run_readRow d L k t 6 f) $$ H; iintro H
  iapply (run_readRow d L k t 7 f) $$ H; iintro H
  iapply (le_wp_ret)
  isplitr
  · ipureintro
    unfold accAll tup
    simp only [accS_step, accW_step]
  · iexists f
    isplitr; · ipureintro; rfl
    iexact H

/-! ## The sums stored -/

/-- A row of partial sums with piece `c` of row `b` replaced. -/
def putF (f : S4x256.Idx → Elt F .f32) (b : Fin 4) (c : Fin 16) (v : FVec F S16 .f32) : S4x256.Idx → Elt F .f32 :=
  fun y => if (y 0).val = b.val ∧ (y 1).val / 16 = c.val then v (ln (y 1)) else f y

theorem store_eq (f : S4x256.Idx → Elt F .f32) (b : Fin 4) (c : Fin 16) (v : FVec F S16 .f32) :
    ((partV.access (pieceR b c)).write (Elt F) f (shapeCast S1x16 v shapeCasts_S16_S1x16) Finset.univ) = putF f b c v := by
  funext y
  unfold putF
  split
  · next h =>
    obtain ⟨h0, h1⟩ := h
    have hy : y = (partV.access (pieceR b c)).emb (ix2 (0 : Fin 1) (⟨(y 1).val % 16, Nat.mod_lt _ (by decide)⟩ : Fin 16)) := by
      funext a
      match a with
      | 0 => exact Fin.ext (by show (y 0).val = b.val + 1 * 0; omega)
      | 1 => exact Fin.ext (by
          show (y 1).val = 16 * c.val + 1 * ((y 1).val % 16); omega)
    conv_lhs => rw [hy]
    rw [View.write_emb_of_mem _ _ (Finset.mem_univ _)]
    exact shapeCast_a_1a_apply v _ 0 _
  · next h =>
    refine View.write_of_not_mem _ _ _ fun hm => h ?_
    obtain ⟨j, -, rfl⟩ := Finset.mem_map.mp hm
    have h0 : (j 0).val < 1 := (j 0).isLt
    have h1 : (j 1).val < 16 := (j 1).isLt
    refine ⟨?_, ?_⟩
    · show b.val + 1 * (j 0).val = b.val; omega
    · show (16 * c.val + 1 * (j 1).val) / 16 = c.val; omega

abbrev partP (f : S4x256.Idx → Elt F .f32) : sProp 𝕄 := partL d L ↦{fullShare} f

/-- 16 lanes stored. -/
theorem run_put (b : Fin 4) (c : Fin 16) (v : FVec F S16 .f32) (f : S4x256.Idx → Elt F .f32) (Q : PUnit → sProp 𝕄) :
    partP d L f ⊢ iprop((partP d L (putF f b c v) -∗ Q ⟨⟩) -∗ Run d L (put L b c v) Q) := by
  unfold put Prog.lift
  simp only [wp_bind]
  iintro H HQ
  iapply (wp_load_rect 𝒱₀ (thr d L) none Set.univ (m := partV) (r := pieceR b c) (S := Finset.univ) (Finset.subset_univ _)) $$ H
  iintro H
  iapply (le_wp_ret)
  iapply (wp_store 𝒱₀ (thr d L) none Set.univ (m := partV) (r := pieceR b c) (S := Finset.univ) (Finset.subset_univ _)) $$ H
  iintro H
  iapply (le_wp_ret)
  iapply HQ
  iapply (Entails.of_eq (congrArg (partP d L) (store_eq f b c v))); iexact H

/-- The partial sums' rows below `n` stored. -/
abbrev partH (n : ℕ) : sProp 𝕄 := iprop(∃ f : S4x256.Idx → Elt F .f32, ⌜∀ y : S4x256.Idx, (y 0).val < n → f y = partVal (X d) L y⌝ ∗ partP d L f)

/-- The sixteen sums stored. -/
theorem run_putAll (b : Fin 4) (n : ℕ) (hn : n = b.val) (Q : PUnit → sProp 𝕄) :
    partH X d L n ⊢ iprop((partH X d L (n + 1) -∗ Q ⟨⟩) -∗ Run d L (putAll L b (accAll (blk (X d) L b) k0_t1_loop.trips)) Q) := by
  unfold putAll accAll tup
  simp only [wp_bind]
  iintro ⟨%f, %hf, H⟩ HQ
  iapply (run_put d L b 0) $$ H; iintro H
  iapply (run_put d L b 8) $$ H; iintro H
  iapply (run_put d L b 1) $$ H; iintro H
  iapply (run_put d L b 9) $$ H; iintro H
  iapply (run_put d L b 2) $$ H; iintro H
  iapply (run_put d L b 10) $$ H; iintro H
  iapply (run_put d L b 3) $$ H; iintro H
  iapply (run_put d L b 11) $$ H; iintro H
  iapply (run_put d L b 4) $$ H; iintro H
  iapply (run_put d L b 12) $$ H; iintro H
  iapply (run_put d L b 5) $$ H; iintro H
  iapply (run_put d L b 13) $$ H; iintro H
  iapply (run_put d L b 6) $$ H; iintro H
  iapply (run_put d L b 14) $$ H; iintro H
  iapply (run_put d L b 7) $$ H; iintro H
  iapply (run_put d L b 15) $$ H; iintro H
  iapply HQ
  iexists _
  isplitr; swap; · iexact H
  ipureintro
  intro y hy
  by_cases hb : (y 0).val = b.val
  · have hc : ∀ c : Fin 16, (y 1).val / 16 = c.val → partVal (X d) L y = sumV (blk (X d) L b) c (ln (y 1)) := fun c hc => by
      unfold partVal
      rw [show y 0 = b from Fin.ext hb, show pc (y 1) = c from Fin.ext hc]
    have hlt : (y 1).val / 16 < 16 := by have : (y 1).val < 256 := (y 1).isLt; omega
    obtain ⟨c, hcc⟩ : ∃ c : Fin 16, (y 1).val / 16 = c.val := ⟨⟨_, hlt⟩, rfl⟩
    rw [hc c hcc]
    simp only [putF, hb, hcc, true_and]
    clear hc hcc hlt
    fin_cases c <;> rfl
  · simp only [putF, hb, _root_.false_and, if_false]
    refine hf y (lt_of_le_of_ne (Nat.lt_succ_iff.mp hy) fun e => hb (e.trans hn))

/-! ## A batch, and the four of them -/

theorem run_batch (b : Fin 4) (k : Fin 2) (sm : DmaSems sig S_) (q : PosShare TreeShare) (n : ℕ) (hn : n = b.val)
    (O : CellTallies nD τ sig (HIx 1)) (W : Waits sig (HIx 1)) (Q : PUnit → sProp 𝕄) :
    iprop(flightP X d L b k sm q ∗ mayP d L O ∗ owesX d L O W ∗ partH X d L n)
      ⊢ iprop((iprop((∃ f, slotP d L k f) ∗ (xLoc d ↦{q} X d) ∗ semP d L sm ∗ owesX d L O W ∗ partH X d L (n + 1)) -∗ Q ⟨⟩) -∗ Run d L (batch L b k sm) Q) := by
  unfold batch
  simp only [wp_bind]
  iintro ⟨Hfl, Hmw, HO, Hp⟩ HQ
  iapply (run_await X d L b k sm q O W) $$ [Hfl Hmw HO]
  · isplitl [Hfl]; · iexact Hfl
    isplitl [Hmw] <;> iassumption
  iintro ⟨Hs, Hx, Hv, HO⟩
  iapply (Scf.wp_for frame (wpE (defs₀ (F := F)) 𝒱₀ (thr d L) none) Set.univ _ _ _ k0_t1_ok (tup (fun _ => zero16) (fun _ => zero16)) (trip L k)
    (fun n a => iprop(⌜a = accAll (blk (X d) L b) n⌝ ∗ slotH d L k (blk (X d) L b))) (fun t a => run_trip d L k _ t a))
  isplitl [Hs]
  · isplitr; · ipureintro; rfl
    iexact Hs
  iintro %a ⟨%ha, Hs⟩
  rw [ha]
  iapply (run_putAll X d L b n hn) $$ Hp
  iintro Hp
  iapply HQ
  icases Hs with ⟨%f, -, Hs⟩
  isplitl [Hs]; · iexists f; iexact Hs
  isplitl [Hx]; · iexact Hx
  isplitl [Hv]; · iexact Hv
  isplitl [HO]; · iexact HO
  iexact Hp

/-- What the first half starts and ends with, apart from the partial sums: the input's two shares, the two slots, the copies'
    two counters, the owed units. -/
abbrev halfP (q₀ q₁ : PosShare TreeShare) (O : CellTallies nD τ sig (HIx 1)) (W : Waits sig (HIx 1)) : sProp 𝕄 :=
  iprop((xLoc d ↦{q₀} X d) ∗ (xLoc d ↦{q₁} X d) ∗ (∃ f, slotP d L 0 f) ∗ (∃ f, slotP d L 1 f) ∗ semP d L cc0_scratch5 ∗ semP d L cc0_scratch6 ∗ owesX d L O W)

/-- The first half: the four batches' sums stored. -/
theorem run_sums (q₀ q₁ : PosShare TreeShare) (O : CellTallies nD τ sig (HIx 1)) (W : Waits sig (HIx 1)) (Q : PUnit → sProp 𝕄) :
    iprop(mayP d L O ∗ halfP X d L q₀ q₁ O W ∗ partH X d L 0)
      ⊢ iprop((iprop(halfP X d L q₀ q₁ O W ∗ partH X d L 4) -∗ Q ⟨⟩) -∗ Run d L (sums L) Q) := by
  unfold sums
  simp only [wp_bind]
  iintro ⟨#Hmw, ⟨Hx0, Hx1, ⟨%f0, Hs0⟩, ⟨%f1, Hs1⟩, Hv0, Hv1, HO⟩, Hp⟩ HQ
  iapply (run_fetch X d L 0 0 cc0_scratch5 q₀ f0) $$ [Hx0 Hs0 Hv0]
  · isplitl [Hx0]; · iexact Hx0
    isplitl [Hs0] <;> iassumption
  iintro Hf0
  iapply (run_fetch X d L 1 1 cc0_scratch6 q₁ f1) $$ [Hx1 Hs1 Hv1]
  · isplitl [Hx1]; · iexact Hx1
    isplitl [Hs1] <;> iassumption
  iintro Hf1
  iapply (run_batch X d L 0 0 cc0_scratch5 q₀ 0 rfl O W) $$ [Hf0 HO Hp]
  · isplitl [Hf0]; · iexact Hf0
    isplitr; · iexact Hmw
    isplitl [HO] <;> iassumption
  iintro ⟨⟨%f0, Hs0⟩, Hx0, Hv0, HO, Hp⟩
  iapply (run_fetch X d L 2 0 cc0_scratch5 q₀ f0) $$ [Hx0 Hs0 Hv0]
  · isplitl [Hx0]; · iexact Hx0
    isplitl [Hs0] <;> iassumption
  iintro Hf0
  iapply (run_batch X d L 1 1 cc0_scratch6 q₁ 1 rfl O W) $$ [Hf1 HO Hp]
  · isplitl [Hf1]; · iexact Hf1
    isplitr; · iexact Hmw
    isplitl [HO] <;> iassumption
  iintro ⟨⟨%f1, Hs1⟩, Hx1, Hv1, HO, Hp⟩
  iapply (run_fetch X d L 3 1 cc0_scratch6 q₁ f1) $$ [Hx1 Hs1 Hv1]
  · isplitl [Hx1]; · iexact Hx1
    isplitl [Hs1] <;> iassumption
  iintro Hf1
  iapply (run_batch X d L 2 0 cc0_scratch5 q₀ 2 rfl O W) $$ [Hf0 HO Hp]
  · isplitl [Hf0]; · iexact Hf0
    isplitr; · iexact Hmw
    isplitl [HO] <;> iassumption
  iintro ⟨Hs0, Hx0, Hv0, HO, Hp⟩
  iapply (run_batch X d L 3 1 cc0_scratch6 q₁ 3 rfl O W) $$ [Hf1 HO Hp]
  · isplitl [Hf1]; · iexact Hf1
    isplitr; · iexact Hmw
    isplitl [HO] <;> iassumption
  iintro ⟨Hs1, Hx1, Hv1, HO, Hp⟩
  iapply HQ
  isplitr [Hp]; swap; · iexact Hp
  isplitl [Hx0]; · iexact Hx0
  isplitl [Hx1]; · iexact Hx1
  isplitl [Hs0]; · iexact Hs0
  isplitl [Hs1]; · iexact Hs1
  isplitl [Hv0]; · iexact Hv0
  isplitl [Hv1]; · iexact Hv1
  iexact HO

/-! ## The hand-over -/

theorem shRow_sub : (shRowM L).view.set ⊆ shR (L 1).val := by
  intro y hy
  obtain ⟨j, -, rfl⟩ := Finset.mem_map.mp hy
  refine Finset.mem_filter.mpr ⟨Finset.mem_univ _, ?_⟩
  have h : ((Shape.reshapeEquiv squeezes_S1x4x256_S4x256.numel_eq j) 0).val < 1 := ((Shape.reshapeEquiv squeezes_S1x4x256_S4x256.numel_eq j) 0).isLt
  show k0_off34 L 0 + 1 * ((Shape.reshapeEquiv squeezes_S1x4x256_S4x256.numel_eq j) 0).val = (L 1).val
  rw [k0_off34_eq]
  show (L 1).val + 1 * ((Shape.reshapeEquiv squeezes_S1x4x256_S4x256.numel_eq j) 0).val = (L 1).val
  omega

/-- The task's row of the shared memory, written at its partial sums, is what `shVal` says of the row. -/
theorem shRow_val (f : S16x4x256.Idx → Elt F .f32) (y : S16x4x256.Idx) (hy : y ∈ shR (L 1).val) :
    (shRowM L).view.write (Elt F) f (partVal (X d) L) Finset.univ y = shVal (X d) (L 0) y := by
  have h0 : (y 0).val = (L 1).val := (Finset.mem_filter.mp hy).2
  have he : y = (shRowM L).view.emb (ix2 (y 1) (y 2)) := by
    show y = (Rect.unit (s := S16x4x256) (k0_off34 L) S1x4x256.size (k0_off34_inb L)).emb (Shape.reshapeEquiv squeezes_S1x4x256_S4x256.numel_eq (ix2 (y 1) (y 2)))
    refine Eq.trans ?_ (congrArg (fun z => (Rect.unit (s := S16x4x256) (k0_off34 L) S1x4x256.size (k0_off34_inb L)).emb z) (reshapeEquiv_ix2_1ab squeezes_S1x4x256_S4x256.numel_eq (y 1) (y 2))).symm
    funext a
    refine Fin.ext ?_
    rw [Rect.emb_apply]
    refine Eq.trans ?_ (congrArg (fun n => n + 1 * (ix3 (⟨0, Nat.one_pos⟩ : Fin 1) (y 1) (y 2) a).val) (congrFun (k0_off34_eq L) a)).symm
    match a with
    | 0 => show (y 0).val = (L 1).val + 1 * 0; omega
    | 1 => show (y 1).val = 0 + 1 * (y 1).val; omega
    | 2 => show (y 2).val = 0 + 1 * (y 2).val; omega
  have hL : coordsV (L 0) (y 0) = L := by
    funext a
    match a with
    | 0 => rfl
    | 1 => exact Fin.ext h0
  conv_lhs => rw [he]
  rw [View.write_emb_of_mem _ _ (Finset.mem_univ _)]
  unfold shVal
  rw [hL]; rfl

/-- The partial sums copied to the task's row of the shared memory. -/
theorem run_publish (O : CellTallies nD τ sig (HIx 1)) (W : Waits sig (HIx 1)) (Q : PUnit → sProp 𝕄) :
    iprop(mayP d L O ∗ owesX d L O W ∗ partH X d L 4 ∗ (∃ f, shRowPts d (cV L) (L 1).val f) ∗ semP d L cc0_scoped0)
      ⊢ iprop((iprop(owesX d L O W ∗ (∃ f, partP d L f) ∗ shRowPts d (cV L) (L 1).val (shVal (X d) (L 0)) ∗ semP d L cc0_scoped0) -∗ Q ⟨⟩)
          -∗ Run d L (publish L) Q) := by
  unfold publish Prog.lift
  simp only [wp_bind]
  iintro ⟨Hmw, ⟨%W', %hW', HO⟩, ⟨%g, %hg, Hp⟩, ⟨%f, Hs⟩, Hv⟩ HQ
  have hg' : g = partVal (X d) L := funext fun y => hg y (y 0).isLt
  subst hg'
  iapply (Transfers.wp_dmaFromWhole EC 𝒱₀ (thr d L) none (default : HIx 1) (shRowM L).view.dmaCredit (src := partV) (dst := shRowM L)
    (fs := partVal (X d) L) (Sd := shR (L 1).val) (fd := f) rfl (View.dmaCredit_pos _ (by decide)) (shRow_sub L)) $$ [Hp Hs Hv]
  · isplitl [Hp]; · iexact Hp
    isplitl [Hs]; · iexact Hs
    iexact Hv
  iintro Hfl
  iapply (le_wp_ret)
  iapply (Transfers.wp_waitLocalO EC 𝒱₀ (thr d L) none (default : HIx 1) (dstw := shRowM L) (srcw := partV) rfl) $$ [Hfl Hmw HO]
  · isplitl [Hfl]; · iexact Hfl
    isplitl [HO]; · iexact HO
    iapply (Transfers.MayWaits.elim (SemLoc.dma cc0_scoped0.sem)); iexact Hmw
  iintro ⟨⟨Hs, Hp⟩, Hv, HO⟩
  iapply (le_wp_ret)
  iapply HQ
  isplitl [HO]
  · iexists _
    isplitr; swap; · iexact HO
    ipureintro
    intro p hp
    rcases Finset.mem_insert.mp hp with rfl | hp
    · exact .inr (.inl rfl)
    · exact hW' p hp
  isplitl [Hp]; · iexists _; iexact Hp
  isplitl [Hs]
  · iapply (Entails.of_eq (pointsTo_congr (ℓ := shLoc d (cV L)) (I := shR (L 1).val) (q := fullShare) fun y hy => shRow_val X d L f y hy)); iexact Hs
  iexact Hv

end Tile

end Cert.Proof.Pool

end
-- ==== Proof.TileCombine.lean ====
/-
  A combining task's second half: its group's eight rows of partial sums collected, each batch's 128 quotients formed and
  copied to the results. Every piece once, at a symbolic batch, group and row.
-/
module

public import proofs.«01_k».proof.Proof.TileSums

@[expose] public section

noncomputable section

namespace Cert.Proof.Pool

open Cert.KernelIdeal Cert.KernelIdeal.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

variable (m : (ℓ : Loc nD τ sig) → Buf (Elt F) ℓ) (X : Dev nD → XBuf F)

section Tile

variable (d : Dev nD) (L : grid0.Coords) (h : k0_cond1 L = 1#1)

/-! ## Which tasks combine, and where they read and write -/

theorem cond_iff : ∀ L : grid0.Coords, k0_cond1 L = 1#1 ↔ 8 * ((L 1).val / 8) = (L 1).val := by decide +kernel

theorem off36_eq : ∀ (L : grid0.Coords) (b : Fin 4), k0_cond1 L = 1#1 →
    k0_off36 L (BitVec.ofNat 32 (512 * b.val)) 0 = 512 * b.val + 256 * (L 0).val + 128 * ((L 1).val / 8) := by decide +kernel

/-- The half of its SparseCore's results a task's group computes. -/
abbrev half (L : grid0.Coords) : Fin 2 := ⟨(L 1).val / 8, by have : (L 1).val < 16 := (L 1).isLt; omega⟩

include h in
theorem shGrp_set : (shGrpM L h).view.set = shG (L 1).val := by
  have hL := (cond_iff L).mp h
  ext y
  constructor
  · intro hy
    obtain ⟨j, -, rfl⟩ := Finset.mem_map.mp hy
    refine Finset.mem_filter.mpr ⟨Finset.mem_univ _, ?_⟩
    have hj : (j 0).val < 8 := (j 0).isLt
    have he : (((shGrpM L h).view.emb j) 0).val = (L 1).val + 1 * (j 0).val :=
      congrArg (fun n => n + 1 * (j 0).val) (congrFun (k0_off35_eq L) 0)
    rw [he]; omega
  · intro hy
    have hy' : 8 * ((y 0).val / 8) = (L 1).val := (Finset.mem_filter.mp hy).2
    refine Finset.mem_map.mpr ⟨ix3 (⟨(y 0).val - (L 1).val, by omega⟩ : Fin 8) (y 1) (y 2), Finset.mem_univ _, ?_⟩
    funext a
    refine Fin.ext ?_
    refine (congrArg (fun n => n + 1 * ((ix3 (⟨(y 0).val - (L 1).val, by omega⟩ : Fin 8) (y 1) (y 2) : S8x4x256.Idx) a).val) (congrFun (k0_off35_eq L) a)).trans ?_
    match a with
    | 0 => show (L 1).val + 1 * ((y 0).val - (L 1).val) = (y 0).val; omega
    | 1 => show 0 + 1 * (y 1).val = (y 1).val; omega
    | 2 => show 0 + 1 * (y 2).val = (y 2).val; omega

/-! ## The eight rows collected -/

/-- The eight rows a combining task copies in. -/
def combC : S8x4x256.Idx → Elt F .f32 := (shGrpM L h).view.read (Elt F) (shVal (X d) (L 0))

abbrev combP (f : S8x4x256.Idx → Elt F .f32) : sProp 𝕄 := combL d L ↦{fullShare} f
abbrev grpP (f : Buf (Elt F) (shLoc d (cV L))) : sProp 𝕄 := shLoc d (cV L) ↦[shG (L 1).val]{fullShare} f

/-- The rows copied in are the group's. -/
theorem grp_set : (shLoc d (cV L) ↦[(shGrpM L h).view.set]{fullShare} shVal (X d) (L 0) : sProp 𝕄) = grpP d L (shVal (X d) (L 0)) :=
  congrArg (fun I => (shLoc d (cV L) ↦[I]{fullShare} shVal (X d) (L 0) : sProp 𝕄)) (shGrp_set L h)

theorem run_collect (O : CellTallies nD τ sig (HIx 1)) (W : Waits sig (HIx 1)) (Q : PUnit → sProp 𝕄) :
    iprop(mayP d L O ∗ owesX d L O W ∗ grpP d L (shVal (X d) (L 0)) ∗ (∃ f, combP d L f) ∗ semP d L cc0_scoped1)
      ⊢ iprop((iprop(owesX d L O W ∗ grpP d L (shVal (X d) (L 0)) ∗ combP d L (combC X d L h) ∗ semP d L cc0_scoped1) -∗ Q ⟨⟩)
          -∗ Run d L (collect L h) Q) := by
  unfold collect Prog.lift
  simp only [wp_bind]
  iintro ⟨Hmw, ⟨%W', %hW', HO⟩, Hs, ⟨%f, Hc⟩, Hv⟩ HQ
  iapply (Transfers.wp_dmaLocal EC 𝒱₀ (thr d L) none (default : HIx 1) combV.view.dmaCredit (src := shGrpM L h) (dst := combV)
    (fs := shVal (X d) (L 0)) (Sd := Finset.univ) (fd := f) rfl (View.dmaCredit_pos _ (by decide)) (Finset.subset_univ _)) $$ [Hs Hc Hv]
  · isplitl [Hs]; · iapply (Entails.of_eq (grp_set X d L h).symm); iexact Hs
    isplitl [Hc]; · iexact Hc
    iexact Hv
  iintro Hfl
  iapply (le_wp_ret)
  iapply (Transfers.wp_waitLocalO EC 𝒱₀ (thr d L) none (default : HIx 1) (dstw := combV) (srcw := shGrpM L h) rfl) $$ [Hfl Hmw HO]
  · isplitl [Hfl]; · iexact Hfl
    isplitl [HO]; · iexact HO
    iapply (Transfers.MayWaits.elim (SemLoc.dma cc0_scoped1.sem)); iexact Hmw
  iintro ⟨⟨Hc, Hs⟩, Hv, HO⟩
  iapply (le_wp_ret)
  iapply HQ
  isplitl [HO]
  · iexists _
    isplitr; swap; · iexact HO
    ipureintro
    intro p hp
    rcases Finset.mem_insert.mp hp with rfl | hp
    · exact .inr (.inl rfl)
    · exact hW' p hp
  isplitl [Hs]; · iapply (Entails.of_eq (grp_set X d L h)); iexact Hs
  isplitl [Hc]
  · iapply (Entails.of_eq (congrArg (combP d L) (show combV.view.write (Elt F) f (combC X d L h) Finset.univ = combC X d L h from View.write_whole_univ _ _ _))); iexact Hc
  iexact Hv

/-- A collected piece. -/
abbrev combR (i : Fin 8) (b : Fin 4) (c : Fin 16) : Rect S8x4x256 := Rect.unit (s := S8x4x256) ![i.val, b.val, 16 * c.val] S1x1x16.size (comb_inb i b c)

theorem combC_apply (i : Fin 8) (b : Fin 4) (z : Fin 256) :
    combC X d L h (ix3 i b z) = sumV (blk (X d) (coordsV (L 0) (tileNo (half L) i)) b) (pc z) (ln z) := by
  have hL := (cond_iff L).mp h
  have h1 : (L 1).val < 16 := (L 1).isLt
  have he : (shGrpM L h).view.emb (ix3 i b z) = (ix3 (⟨8 * ((L 1).val / 8) + i.val, by omega⟩ : Fin 16) b z : S16x4x256.Idx) := by
    funext a
    refine Fin.ext ?_
    refine (congrArg (fun n => n + 1 * ((ix3 i b z : S8x4x256.Idx) a).val) (congrFun (k0_off35_eq L) a)).trans ?_
    match a with
    | 0 => show (L 1).val + 1 * i.val = 8 * ((L 1).val / 8) + i.val; omega
    | 1 => show 0 + 1 * b.val = b.val; omega
    | 2 => show 0 + 1 * z.val = z.val; omega
  show shVal (X d) (L 0) ((shGrpM L h).view.emb (ix3 i b z)) = _
  rw [he]; rfl

theorem lanes3_apply (v : Vec F S1x1x16 .f32) (l : Fin 16) : lanes3 v (ix1 l) = v (ix3 (0 : Fin 1) (0 : Fin 1) l) :=
  shapeCast_apply v _ _ _ (by
    rw [Shape.rowMajor_val_three, Shape.rowMajor_val_one]
    show (0 * 1 + 0) * 16 + l.val = l.val
    omega)

/-- Task `8 k + i`'s piece `c` of row `b`, as the combining task reads it. -/
theorem piece_val (i : Fin 8) (b : Fin 4) (c : Fin 16) :
    lanes3 ((combV.access (combR i b c)).read (Elt F) (combC X d L h)) = sumV (blk (X d) (coordsV (L 0) (tileNo (half L) i)) b) c := by
  funext l
  obtain ⟨l, rfl⟩ : ∃ l' : Fin 16, l = ix1 l' := ⟨l 0, eq_ix1 l⟩
  rw [lanes3_apply]
  have he : (combR i b c).emb (ix3 (0 : Fin 1) (0 : Fin 1) l) = (ix3 i b (⟨16 * c.val + l.val, by omega⟩ : Fin 256) : S8x4x256.Idx) := by
    funext a
    refine Fin.ext ?_
    match a with
    | 0 => show i.val + 1 * 0 = i.val; omega
    | 1 => show b.val + 1 * 0 = b.val; omega
    | 2 => show 16 * c.val + 1 * l.val = 16 * c.val + l.val; omega
  show combC X d L h ((combR i b c).emb (ix3 (0 : Fin 1) (0 : Fin 1) l)) = _
  rw [he, combC_apply]
  congr 1
  · exact Fin.ext (by show (16 * c.val + l.val) / 16 = c.val; omega)
  · exact congrArg ix1 (Fin.ext (by show (16 * c.val + l.val) % 16 = l.val; omega))

theorem run_readPart (i : Fin 8) (b : Fin 4) (c : Fin 16) (f : S8x4x256.Idx → Elt F .f32) (Q : Vec F S1x1x16 .f32 → sProp 𝕄) :
    combP d L f ⊢ iprop((combP d L f -∗ Q ((combV.access (combR i b c)).read (Elt F) f)) -∗ Run d L (readPart L i b c) Q) := by
  unfold readPart Prog.lift
  iintro H HQ
  iapply (wp_load_rect 𝒱₀ (thr d L) none Set.univ (m := combV) (r := combR i b c) (S := Finset.univ) (Finset.subset_univ _)) $$ H
  iintro H
  iapply (le_wp_ret)
  iapply HQ
  iexact H

/-! ## One group -/

/-- The sum over the first `n + 1` tasks of the group: of the weights and of the weighted entries. -/
abbrev pair (b : Fin 4) (g : Fin 8) (n : ℕ) : FVec F S16 .f32 × FVec F S16 .f32 :=
  (total (fun i => sumV (blk (X d) (coordsV (L 0) (tileNo (half L) i)) b) (cS g)) n, total (fun i => sumV (blk (X d) (coordsV (L 0) (tileNo (half L) i)) b) (cW g)) n)

theorem total_succ (f : Fin 8 → FVec F S16 .f32) (n : ℕ) (hn : n + 1 < 8) : total f (n + 1) = addf (total f n) (f ⟨n + 1, hn⟩) := dif_pos hn

theorem run_addIn (b : Fin 4) (g : Fin 8) (n : ℕ) (hn : n + 1 < 8) (Q : FVec F S16 .f32 × FVec F S16 .f32 → sProp 𝕄) :
    combP d L (combC X d L h) ⊢ iprop((combP d L (combC X d L h) -∗ Q (pair X d L b g (n + 1)))
      -∗ Run d L (addIn L b g ⟨n + 1, hn⟩ (pair X d L b g n)) Q) := by
  unfold addIn
  simp only [wp_bind]
  iintro H HQ
  iapply (run_readPart d L ⟨n + 1, hn⟩ b (cS g)) $$ H; iintro H
  iapply (run_readPart d L ⟨n + 1, hn⟩ b (cW g)) $$ H; iintro H
  iapply (le_wp_ret)
  rw [piece_val, piece_val]
  unfold pair
  rw [total_succ _ n hn, total_succ _ n hn]
  iapply HQ
  iexact H

abbrev obufP (f : S128.Idx → Elt F .f32) : sProp 𝕄 := obufL d L ↦{fullShare} f
/-- The quotients of the groups below `n` stored. -/
abbrev obufH (b : Fin 4) (n : ℕ) : sProp 𝕄 :=
  iprop(∃ f : S128.Idx → Elt F .f32, ⌜∀ y : S128.Idx, (y 0).val < 16 * n → f y = resV (X d) (L 0) (half L) b y⌝ ∗ obufP d L f)

theorem run_putOut (b : Fin 4) (g : Fin 8) (n : ℕ) (hn : n = g.val) (Q : PUnit → sProp 𝕄) :
    obufH X d L b n ⊢ iprop((obufH X d L b (n + 1) -∗ Q ⟨⟩) -∗ Run d L (putOut L g (pair X d L b g 7)) Q) := by
  unfold putOut Prog.lift
  simp only [wp_bind]
  iintro ⟨%f, %hf, H⟩ HQ
  iapply (wp_load_rect 𝒱₀ (thr d L) none Set.univ (m := obufV) (r := outR g) (S := Finset.univ) (Finset.subset_univ _)) $$ H
  iintro H
  iapply (le_wp_ret)
  iapply (wp_store 𝒱₀ (thr d L) none Set.univ (m := obufV) (r := outR g) (S := Finset.univ) (Finset.subset_univ _)) $$ H
  iintro H
  iapply (le_wp_ret)
  iapply HQ
  iexists _
  isplitr; swap; · iexact H
  ipureintro
  subst hn
  intro y hy
  by_cases hlo : (y 0).val < 16 * g.val
  · refine (View.write_of_not_mem _ _ _ fun hm => ?_).trans (hf y hlo)
    obtain ⟨j, -, rfl⟩ := Finset.mem_map.mp hm
    have : 16 * g.val + 1 * (j 0).val < 16 * g.val := hlo
    omega
  · have hlt : (y 0).val - 16 * g.val < 16 := by omega
    have he : y = (obufV.access (outR g)).emb (ix1 (⟨(y 0).val - 16 * g.val, hlt⟩ : Fin 16)) := by
      funext a
      match a with
      | 0 => exact Fin.ext (by show (y 0).val = 16 * g.val + 1 * ((y 0).val - 16 * g.val); omega)
    conv_lhs => rw [he]
    rw [View.write_emb_of_mem _ _ (Finset.mem_univ _)]
    refine (cast_eq _ _).trans ((shapeCast_apply _ _ _ (ix1 (⟨(y 0).val - 16 * g.val, hlt⟩ : Fin 16)) rfl).trans ?_)
    unfold resV quotV
    have hg : (⟨(y 0).val / 16, by have : (y 0).val < 128 := (y 0).isLt; omega⟩ : Fin 8) = g := Fin.ext (by show (y 0).val / 16 = g.val; omega)
    have hl : (⟨(y 0).val % 16, Nat.mod_lt _ (by decide)⟩ : Fin 16) = ⟨(y 0).val - 16 * g.val, hlt⟩ := Fin.ext (by show (y 0).val % 16 = (y 0).val - 16 * g.val; omega)
    rw [hg, hl]

theorem run_group (b : Fin 4) (g : Fin 8) (n : ℕ) (hn : n = g.val) (Q : PUnit → sProp 𝕄) :
    iprop(combP d L (combC X d L h) ∗ obufH X d L b n)
      ⊢ iprop((iprop(combP d L (combC X d L h) ∗ obufH X d L b (n + 1)) -∗ Q ⟨⟩) -∗ Run d L (group L b g) Q) := by
  unfold group
  simp only [wp_bind]
  iintro ⟨H, Ho⟩ HQ
  iapply (run_readPart d L 0 b (cS g)) $$ H; iintro H
  iapply (run_readPart d L 0 b (cW g)) $$ H; iintro H
  rw [piece_val, piece_val]
  iapply (run_addIn X d L h b g 0 (by decide)) $$ H; iintro H
  iapply (run_addIn X d L h b g 1 (by decide)) $$ H; iintro H
  iapply (run_addIn X d L h b g 2 (by decide)) $$ H; iintro H
  iapply (run_addIn X d L h b g 3 (by decide)) $$ H; iintro H
  iapply (run_addIn X d L h b g 4 (by decide)) $$ H; iintro H
  iapply (run_addIn X d L h b g 5 (by decide)) $$ H; iintro H
  iapply (run_addIn X d L h b g 6 (by decide)) $$ H; iintro H
  iapply (run_putOut X d L b g n hn) $$ Ho; iintro Ho
  iapply HQ
  isplitl [H] <;> iassumption

/-! ## A batch's results written -/

abbrev outP (f : S2048.Idx → Elt F .f32) : sProp 𝕄 := oLoc d ↦[oT (L 0).val (L 1).val]{fullShare} f
/-- The results of the batches below `n` written. -/
abbrev outH (n : ℕ) : sProp 𝕄 :=
  iprop(∃ f : S2048.Idx → Elt F .f32, ⌜∀ p ∈ oT (L 0).val (L 1).val, (p 0).val / 512 < n → f p = outVal (X d) p⌝ ∗ outP d L f)

include h in
theorem dst_sub (b : Fin 4) : (dstM L h b).view.set ⊆ oT (L 0).val (L 1).val := by
  have hL := (cond_iff L).mp h
  have h1 : (L 1).val < 16 := (L 1).isLt
  have h2 : (L 0).val < 2 := (L 0).isLt
  intro p hp
  obtain ⟨j, -, rfl⟩ := Finset.mem_map.mp hp
  have hj : (j 0).val < 128 := (j 0).isLt
  have he : (((dstM L h b).view.emb j) 0).val = 512 * b.val + 256 * (L 0).val + 128 * ((L 1).val / 8) + 1 * (j 0).val :=
    congrArg (fun n => n + 1 * (j 0).val) (off36_eq L b h)
  refine Finset.mem_filter.mpr ⟨Finset.mem_univ _, ?_⟩
  rw [he]
  omega

include h in
theorem dst_val (b : Fin 4) (f : S2048.Idx → Elt F .f32) (p : S2048.Idx) (hp : p ∈ oT (L 0).val (L 1).val) :
    (dstM L h b).view.write (Elt F) f (resV (X d) (L 0) (half L) b) Finset.univ p = if (p 0).val / 512 = b.val then outVal (X d) p else f p := by
  have hL := (cond_iff L).mp h
  have h1 : (L 1).val < 16 := (L 1).isLt
  have h2 : (L 0).val < 2 := (L 0).isLt
  obtain ⟨hp1, hp2⟩ := (Finset.mem_filter.mp hp).2
  have hp0 : (p 0).val < 2048 := (p 0).isLt
  split
  · next hb =>
    have he : p = (dstM L h b).view.emb (ix1 (⟨(p 0).val % 128, Nat.mod_lt _ (by decide)⟩ : Fin 128)) := by
      funext a
      match a with
      | 0 =>
        refine Fin.ext ?_
        refine Eq.trans ?_ (congrArg (fun n => n + 1 * ((p 0).val % 128)) (off36_eq L b h)).symm
        show (p 0).val = 512 * b.val + 256 * (L 0).val + 128 * ((L 1).val / 8) + 1 * ((p 0).val % 128)
        omega
    conv_lhs => rw [he]
    rw [View.write_emb_of_mem _ _ (Finset.mem_univ _)]
    unfold outVal
    have e1 : (⟨(p 0).val % 512 / 256, by omega⟩ : Fin 2) = L 0 := Fin.ext hp1
    have e2 : (⟨(p 0).val % 256 / 128, by omega⟩ : Fin 2) = half L := Fin.ext (by show (p 0).val % 256 / 128 = (L 1).val / 8; omega)
    have e3 : (⟨(p 0).val / 512, by omega⟩ : Fin 4) = b := Fin.ext hb
    rw [e1, e2, e3]; rfl
  · next hb =>
    refine View.write_of_not_mem _ _ _ fun hm => hb ?_
    obtain ⟨j, -, rfl⟩ := Finset.mem_map.mp hm
    have hj : (j 0).val < 128 := (j 0).isLt
    have he : (((dstM L h b).view.emb j) 0).val = 512 * b.val + 256 * (L 0).val + 128 * ((L 1).val / 8) + 1 * (j 0).val :=
      congrArg (fun n => n + 1 * (j 0).val) (off36_eq L b h)
    rw [he]; omega

theorem run_emit (b : Fin 4) (n : ℕ) (hn : n = b.val) (O : CellTallies nD τ sig (HIx 1)) (W : Waits sig (HIx 1)) (Q : PUnit → sProp 𝕄) :
    iprop(mayP d L O ∗ owesX d L O W ∗ obufH X d L b 8 ∗ outH X d L n ∗ semP d L cc0_scratch7)
      ⊢ iprop((iprop(owesX d L O W ∗ (∃ f, obufP d L f) ∗ outH X d L (n + 1) ∗ semP d L cc0_scratch7) -∗ Q ⟨⟩)
          -∗ Run d L (emit L h b) Q) := by
  unfold emit Prog.lift
  simp only [wp_bind]
  iintro ⟨Hmw, ⟨%W', %hW', HO⟩, ⟨%g, %hg, Hp⟩, ⟨%f, %hf, Hs⟩, Hv⟩ HQ
  have hg' : g = resV (X d) (L 0) (half L) b := funext fun y => hg y (y 0).isLt
  subst hg'
  iapply (Transfers.wp_dmaFromWhole EC 𝒱₀ (thr d L) none (default : HIx 1) (dstM L h b).view.dmaCredit (src := obufV) (dst := dstM L h b)
    (fs := resV (X d) (L 0) (half L) b) (Sd := oT (L 0).val (L 1).val) (fd := f) rfl (View.dmaCredit_pos _ (by decide)) (dst_sub L h b)) $$ [Hp Hs Hv]
  · isplitl [Hp]; · iexact Hp
    isplitl [Hs]; · iexact Hs
    iexact Hv
  iintro Hfl
  iapply (le_wp_ret)
  iapply (Transfers.wp_waitLocalO EC 𝒱₀ (thr d L) none (default : HIx 1) (dstw := dstM L h b) (srcw := obufV) rfl) $$ [Hfl Hmw HO]
  · isplitl [Hfl]; · iexact Hfl
    isplitl [HO]; · iexact HO
    iapply (Transfers.MayWaits.elim (SemLoc.dma cc0_scratch7.sem)); iexact Hmw
  iintro ⟨⟨Hs, Hp⟩, Hv, HO⟩
  iapply (le_wp_ret)
  iapply HQ
  isplitl [HO]
  · iexists _
    isplitr; swap; · iexact HO
    ipureintro
    intro p hp
    rcases Finset.mem_insert.mp hp with rfl | hp
    · exact .inr (.inl rfl)
    · exact hW' p hp
  isplitl [Hp]; · iexists _; iexact Hp
  isplitl [Hs]
  · iexists _
    isplitr; swap; · iexact Hs
    ipureintro
    intro p hp hlt
    refine (dst_val X d L h b f p hp).trans ?_
    split
    · rfl
    · next hb => exact hf p hp (lt_of_le_of_ne (Nat.lt_succ_iff.mp hlt) fun e => hb (e.trans hn))
  iexact Hv

/-- What a combining task holds between batches. -/
abbrev combineP (n : ℕ) (O : CellTallies nD τ sig (HIx 1)) (W : Waits sig (HIx 1)) : sProp 𝕄 :=
  iprop(owesX d L O W ∗ combP d L (combC X d L h) ∗ (∃ f, obufP d L f) ∗ outH X d L n ∗ semP d L cc0_scratch7)

theorem run_outBatch (b : Fin 4) (n : ℕ) (hn : n = b.val) (O : CellTallies nD τ sig (HIx 1)) (W : Waits sig (HIx 1)) (Q : PUnit → sProp 𝕄) :
    iprop(mayP d L O ∗ combineP X d L h n O W) ⊢ iprop((combineP X d L h (n + 1) O W -∗ Q ⟨⟩) -∗ Run d L (outBatch L h b) Q) := by
  unfold outBatch
  simp only [wp_bind]
  iintro ⟨Hmw, HO, Hc, ⟨%f, Hp⟩, Ho, Hv⟩ HQ
  iapply (run_group X d L h b 0 0 rfl) $$ [Hc Hp]
  · isplitl [Hc]; · iexact Hc
    iexists f; isplitr; swap; · iexact Hp
    ipureintro; intro y hy; exact absurd hy (Nat.not_lt_zero _)
  iintro H
  iapply (run_group X d L h b 1 1 rfl) $$ H; iintro H
  iapply (run_group X d L h b 2 2 rfl) $$ H; iintro H
  iapply (run_group X d L h b 3 3 rfl) $$ H; iintro H
  iapply (run_group X d L h b 4 4 rfl) $$ H; iintro H
  iapply (run_group X d L h b 5 5 rfl) $$ H; iintro H
  iapply (run_group X d L h b 6 6 rfl) $$ H; iintro H
  iapply (run_group X d L h b 7 7 rfl) $$ H; iintro ⟨Hc, Hp⟩
  iapply (run_emit X d L h b n hn O W) $$ [Hmw HO Hp Ho Hv]
  · isplitl [Hmw]; · iexact Hmw
    isplitl [HO]; · iexact HO
    isplitl [Hp]; · iexact Hp
    isplitl [Ho] <;> iassumption
  iintro ⟨HO, Hp, Ho, Hv⟩
  iapply HQ
  isplitl [HO]; · iexact HO
  isplitl [Hc]; · iexact Hc
  isplitl [Hp]; · iexact Hp
  isplitl [Ho] <;> iassumption

/-- The second half of a combining task: its results written, the rows it read still at their contents. -/
theorem run_combine (O : CellTallies nD τ sig (HIx 1)) (W : Waits sig (HIx 1)) (Q : PUnit → sProp 𝕄) :
    iprop(mayP d L O ∗ owesX d L O W ∗ grpP d L (shVal (X d) (L 0)) ∗ (∃ f, combP d L f) ∗ (∃ f, obufP d L f) ∗ (∃ f, outP d L f)
        ∗ semP d L cc0_scoped1 ∗ semP d L cc0_scratch7)
      ⊢ iprop((iprop(owesX d L O W ∗ grpP d L (shVal (X d) (L 0)) ∗ (∃ f, combP d L f) ∗ (∃ f, obufP d L f) ∗ outP d L (outVal (X d))
          ∗ semP d L cc0_scoped1 ∗ semP d L cc0_scratch7) -∗ Q ⟨⟩) -∗ Run d L (combine L h) Q) := by
  unfold combine
  simp only [wp_bind]
  iintro ⟨#Hmw, HO, Hs, Hc, Hp, ⟨%f, Ho⟩, Hv1, Hv7⟩ HQ
  iapply (run_collect X d L h O W) $$ [HO Hs Hc Hv1]
  · isplitr; · iexact Hmw
    isplitl [HO]; · iexact HO
    isplitl [Hs]; · iexact Hs
    isplitl [Hc] <;> iassumption
  iintro ⟨HO, Hs, Hc, Hv1⟩
  iapply (run_outBatch X d L h 0 0 rfl O W) $$ [HO Hc Hp Ho Hv7]
  · isplitr; · iexact Hmw
    isplitl [HO]; · iexact HO
    isplitl [Hc]; · iexact Hc
    isplitl [Hp]; · iexact Hp
    isplitr [Hv7]; swap; · iexact Hv7
    iexists f; isplitr; swap; · iexact Ho
    ipureintro; intro p _ hp; exact absurd hp (Nat.not_lt_zero _)
  iintro H
  iapply (run_outBatch X d L h 1 1 rfl O W) $$ [H]
  · isplitr; · iexact Hmw
    iexact H
  iintro H
  iapply (run_outBatch X d L h 2 2 rfl O W) $$ [H]
  · isplitr; · iexact Hmw
    iexact H
  iintro H
  iapply (run_outBatch X d L h 3 3 rfl O W) $$ [H]
  · isplitr; · iexact Hmw
    iexact H
  iintro ⟨HO, Hc, Hp, ⟨%f', %hf', Ho⟩, Hv7⟩
  iapply HQ
  isplitl [HO]; · iexact HO
  isplitl [Hs]; · iexact Hs
  isplitl [Hc]; · iexists _; iexact Hc
  isplitl [Hp]; · iexact Hp
  isplitl [Ho]
  · iapply (Entails.of_eq (pointsTo_congr (ℓ := oLoc d) (I := oT (L 0).val (L 1).val) (q := fullShare) fun p hp =>
      hf' p hp (by have : (p 0).val < 2048 := (p 0).isLt; omega))); iexact Ho
  isplitl [Hv1] <;> iassumption

end Tile

end Cert.Proof.Pool

end
-- ==== Proof.TextEq.lean ====
/-
  The printed SparseCore kernel IS the short program of Text.lean. The printed text is cut into parts wherever a count of
  statements says; each stretch from one wait to the next is put back together here, with the program that follows it a
  variable, and the whole is the stretches in turn.
-/
module

public import proofs.«01_k».proof.Proof.Text

@[expose] public section

noncomputable section

namespace Cert.Proof.Pool

open Cert.KernelIdeal Cert.KernelIdeal.Gen
open Idealize.ShloMosaic
open Idealize.SL Idealize.SL.Sem

variable {F : FTy → Type} [FloatOps F]

/-- Programs that begin alike. -/
theorem bindR {E : Type → Type} {α β : Type} {p : Prog E α} {f g : α → Prog E β} (h : ∀ a, f a = g a) : p >>= f = p >>= g := by
  rw [funext h]

/-- A program followed by nothing. -/
theorem bind_unit {E : Type → Type} (p : Prog E PUnit) : (p >>= fun _ => pure ⟨⟩) = p := bind_pure p

/-- A program that begins with a value. -/
theorem pureR {E : Type → Type} {α β : Type} {a : α} {f : α → Prog E β} {q : Prog E β} (h : f a = q) : (pure a : Prog E α) >>= f = q := h

set_option maxRecDepth 65536
set_option maxHeartbeats 1000000

/-- Row loop 1's trip. -/
theorem body1 (L : grid0.Coords) (a0 a1 a2 a3 a4 a5 a6 a7 a8 a9 a10 a11 a12 a13 a14 a15 : FVec F S16 .f32) :
    k0_t1_body (F := F) L xV (Memref.isWhole_whole _) oV (Memref.isWhole_whole _) bufV (Memref.isWhole_whole _) partV (Memref.isWhole_whole _) combV (Memref.isWhole_whole _)
            obufV (Memref.isWhole_whole _) shV (Memref.isWhole_whole _) cc0_scratch5 cc0_scratch6 cc0_scratch7 cc0_scoped0 cc0_scoped1 a0 a1 a2 a3 a4 a5 a6 a7 a8 a9 a10 a11 a12 a13 a14 a15 = trip L 0 := by
  funext t a
  unfold k0_t1_body
  simp only [k0_part1_eq_skeleton, k0_part2_eq_skeleton]
  rfl

/-- Row loop 2's trip. -/
theorem body2 (L : grid0.Coords) (a0 a1 a2 a3 a4 a5 a6 a7 a8 a9 a10 a11 a12 a13 a14 a15 : FVec F S16 .f32) :
    k0_t2_body (F := F) L xV (Memref.isWhole_whole _) oV (Memref.isWhole_whole _) bufV (Memref.isWhole_whole _) partV (Memref.isWhole_whole _) combV (Memref.isWhole_whole _)
            obufV (Memref.isWhole_whole _) shV (Memref.isWhole_whole _) cc0_scratch5 cc0_scratch6 cc0_scratch7 cc0_scoped0 cc0_scoped1 a0 a1 a2 a3 a4 a5 a6 a7 a8 a9 a10 a11 a12 a13 a14 a15 = trip L 1 := by
  funext t a
  unfold k0_t2_body
  simp only [k0_part3_eq_skeleton, k0_part4_eq_skeleton]
  rfl

/-- Row loop 3's trip. -/
theorem body3 (L : grid0.Coords) (a0 a1 a2 a3 a4 a5 a6 a7 a8 a9 a10 a11 a12 a13 a14 a15 : FVec F S16 .f32) :
    k0_t3_body (F := F) L xV (Memref.isWhole_whole _) oV (Memref.isWhole_whole _) bufV (Memref.isWhole_whole _) partV (Memref.isWhole_whole _) combV (Memref.isWhole_whole _)
            obufV (Memref.isWhole_whole _) shV (Memref.isWhole_whole _) cc0_scratch5 cc0_scratch6 cc0_scratch7 cc0_scoped0 cc0_scoped1 a0 a1 a2 a3 a4 a5 a6 a7 a8 a9 a10 a11 a12 a13 a14 a15 = trip L 0 := by
  funext t a
  unfold k0_t3_body
  simp only [k0_part5_eq_skeleton, k0_part6_eq_skeleton]
  rfl

/-- Row loop 4's trip. -/
theorem body4 (L : grid0.Coords) (a : FVec F S16 .f32) :
    k0_t4_body (F := F) L xV (Memref.isWhole_whole _) oV (Memref.isWhole_whole _) bufV (Memref.isWhole_whole _) partV (Memref.isWhole_whole _) combV (Memref.isWhole_whole _)
            obufV (Memref.isWhole_whole _) shV (Memref.isWhole_whole _) cc0_scratch5 cc0_scratch6 cc0_scratch7 cc0_scoped0 cc0_scoped1 a = trip L 1 := by
  funext t a
  unfold k0_t4_body
  simp only [k0_part7_eq_skeleton, k0_part8_eq_skeleton]
  rfl

/-- The first batch, from its wait to the next copy's start. -/
theorem seg1 (L : grid0.Coords) (v31 : BitVec 32) (a0 a1 a2 a3 a4 a5 a6 a7 a8 a9 a10 a11 a12 a13 a14 a15 : FVec F S16 .f32) (K : _ → TProg (F := F) L PUnit) :
   (do
     let ⟨b3, b4, b5, b6, b7, b11, b12, b13, b14, b15, p⟩ ← k0_part83 (F := F) L xV (Memref.isWhole_whole _) oV (Memref.isWhole_whole _) bufV (Memref.isWhole_whole _) partV (Memref.isWhole_whole _) combV (Memref.isWhole_whole _)
            obufV (Memref.isWhole_whole _) shV (Memref.isWhole_whole _) cc0_scratch5 cc0_scratch6 cc0_scratch7 cc0_scoped0 cc0_scoped1 a0 a1 a2 a3 a4 a5 a6 a7 a8 a9 a10 a11 a12 a13 a14 a15
     let c ← k0_part84 (F := F) L xV (Memref.isWhole_whole _) oV (Memref.isWhole_whole _) bufV (Memref.isWhole_whole _) partV (Memref.isWhole_whole _) combV (Memref.isWhole_whole _)
            obufV (Memref.isWhole_whole _) shV (Memref.isWhole_whole _) cc0_scratch5 cc0_scratch6 cc0_scratch7 cc0_scoped0 cc0_scoped1 b3 b4 b5 b6 b7 b11 b12 b13 b14 p
     let z ← k0_part85 (F := F) L xV (Memref.isWhole_whole _) oV (Memref.isWhole_whole _) bufV (Memref.isWhole_whole _) partV (Memref.isWhole_whole _) combV (Memref.isWhole_whole _)
            obufV (Memref.isWhole_whole _) shV (Memref.isWhole_whole _) cc0_scratch5 cc0_scratch6 cc0_scratch7 cc0_scoped0 cc0_scoped1 v31 b15 c
     K z) = (do
     await L 0 0 cc0_scratch5
     let a ← Scf.Loop.for k0_t1_loop k0_t1_ok (a0, a1, a2, a3, a4, a5, a6, a7, a8, a9, a10, a11, a12, a13, a14, a15) (trip L 0)
     putAll L 0 a
     fetch L 2 0 cc0_scratch5
     K ⟨zero16, zero16, zero16, zero16, zero16, zero16, zero16, zero16, zero16, zero16, zero16, zero16, zero16, zero16, zero16, zero16⟩) := by
  simp only [k0_part83_eq_skeleton, k0_part84_eq_skeleton, k0_part85_eq_skeleton]
  unfold k0_part83_skel
  rw [body1]
  rw [Prog.bind_assoc]
  congr 1
  funext _
  rw [Prog.bind_assoc]
  congr 1

/-- The second batch, from its wait to the next copy's start. -/
theorem seg2 (L : grid0.Coords) (v31 : BitVec 32) (a0 a1 a2 a3 a4 a5 a6 a7 a8 a9 a10 a11 a12 a13 a14 a15 : FVec F S16 .f32) (K : _ → TProg (F := F) L PUnit) :
   (do
     let ⟨b3, b4, b5, b6, b7, b11, b12, b13, b14, b15⟩ ← k0_part86 (F := F) L xV (Memref.isWhole_whole _) oV (Memref.isWhole_whole _) bufV (Memref.isWhole_whole _) partV (Memref.isWhole_whole _) combV (Memref.isWhole_whole _)
            obufV (Memref.isWhole_whole _) shV (Memref.isWhole_whole _) cc0_scratch5 cc0_scratch6 cc0_scratch7 cc0_scoped0 cc0_scoped1 a0 a1 a2 a3 a4 a5 a6 a7 a8 a9 a10 a11 a12 a13 a14 a15
     k0_part87 (F := F) L xV (Memref.isWhole_whole _) oV (Memref.isWhole_whole _) bufV (Memref.isWhole_whole _) partV (Memref.isWhole_whole _) combV (Memref.isWhole_whole _)
            obufV (Memref.isWhole_whole _) shV (Memref.isWhole_whole _) cc0_scratch5 cc0_scratch6 cc0_scratch7 cc0_scoped0 cc0_scoped1 b3 b4 b5 b6 b7 b11 b12 b13 b14
     let z ← k0_part88 (F := F) L xV (Memref.isWhole_whole _) oV (Memref.isWhole_whole _) bufV (Memref.isWhole_whole _) partV (Memref.isWhole_whole _) combV (Memref.isWhole_whole _)
            obufV (Memref.isWhole_whole _) shV (Memref.isWhole_whole _) cc0_scratch5 cc0_scratch6 cc0_scratch7 cc0_scoped0 cc0_scoped1 v31 b15
     K z) = (do
     await L 1 1 cc0_scratch6
     let a ← Scf.Loop.for k0_t1_loop k0_t1_ok (a0, a1, a2, a3, a4, a5, a6, a7, a8, a9, a10, a11, a12, a13, a14, a15) (trip L 1)
     putAll L 1 a
     fetch L 3 1 cc0_scratch6
     K ⟨zero16, zero16, zero16, zero16, zero16, zero16, zero16, zero16, zero16, zero16, zero16, zero16, zero16, zero16, zero16, zero16⟩) := by
  simp only [k0_part86_eq_skeleton, k0_part87_eq_skeleton, k0_part88_eq_skeleton]
  unfold k0_part86_skel
  rw [body2]
  rw [Prog.bind_assoc]
  congr 1
  funext _
  rw [Prog.bind_assoc]
  congr 1

/-- The third and the fourth batch. -/
theorem seg3 (L : grid0.Coords) (a0 a1 a2 a3 a4 a5 a6 a7 a8 a9 a10 a11 a12 a13 a14 a15 : FVec F S16 .f32) (K : TProg (F := F) L PUnit) :
   (do
     let ⟨b4, b5, b6, b7, b11, b12, b13, b14, b15, p⟩ ← k0_part89 (F := F) L xV (Memref.isWhole_whole _) oV (Memref.isWhole_whole _) bufV (Memref.isWhole_whole _) partV (Memref.isWhole_whole _) combV (Memref.isWhole_whole _)
            obufV (Memref.isWhole_whole _) shV (Memref.isWhole_whole _) cc0_scratch5 cc0_scratch6 cc0_scratch7 cc0_scoped0 cc0_scoped1 a0 a1 a2 a3 a4 a5 a6 a7 a8 a9 a10 a11 a12 a13 a14 a15
     k0_part90 (F := F) L xV (Memref.isWhole_whole _) oV (Memref.isWhole_whole _) bufV (Memref.isWhole_whole _) partV (Memref.isWhole_whole _) combV (Memref.isWhole_whole _)
            obufV (Memref.isWhole_whole _) shV (Memref.isWhole_whole _) cc0_scratch5 cc0_scratch6 cc0_scratch7 cc0_scoped0 cc0_scoped1 b4 b5 b6 b7 b11 b12 b13 b14 p
     let ⟨c0, c1, c2, c3, c4, c5, c6, c7, c8, c9, c10, c11, c12, c13, c14, c15⟩ ← k0_part91 (F := F) L xV (Memref.isWhole_whole _) oV (Memref.isWhole_whole _) bufV (Memref.isWhole_whole _) partV (Memref.isWhole_whole _) combV (Memref.isWhole_whole _)
            obufV (Memref.isWhole_whole _) shV (Memref.isWhole_whole _) cc0_scratch5 cc0_scratch6 cc0_scratch7 cc0_scoped0 cc0_scoped1 b15
     k0_part92 (F := F) L xV (Memref.isWhole_whole _) oV (Memref.isWhole_whole _) bufV (Memref.isWhole_whole _) partV (Memref.isWhole_whole _) combV (Memref.isWhole_whole _)
            obufV (Memref.isWhole_whole _) shV (Memref.isWhole_whole _) cc0_scratch5 cc0_scratch6 cc0_scratch7 cc0_scoped0 cc0_scoped1 c0 c1 c2 c3 c4 c8 c9 c10 c11
     let _ ← k0_part93 (F := F) L xV (Memref.isWhole_whole _) oV (Memref.isWhole_whole _) bufV (Memref.isWhole_whole _) partV (Memref.isWhole_whole _) combV (Memref.isWhole_whole _)
            obufV (Memref.isWhole_whole _) shV (Memref.isWhole_whole _) cc0_scratch5 cc0_scratch6 cc0_scratch7 cc0_scoped0 cc0_scoped1 c5 c6 c7 c12 c13 c14 c15
     K) = (do
     await L 2 0 cc0_scratch5
     let a ← Scf.Loop.for k0_t1_loop k0_t1_ok (a0, a1, a2, a3, a4, a5, a6, a7, a8, a9, a10, a11, a12, a13, a14, a15) (trip L 0)
     putAll L 2 a
     await L 3 1 cc0_scratch6
     let a ← Scf.Loop.for k0_t1_loop k0_t1_ok (tup (fun _ => zero16) (fun _ => zero16)) (trip L 1)
     putAll L 3 a
     K) := by
  simp only [k0_part89_eq_skeleton, k0_part90_eq_skeleton, k0_part91_eq_skeleton, k0_part92_eq_skeleton, k0_part93_eq_skeleton]
  unfold k0_part89_skel
  rw [body3]
  rw [Prog.bind_assoc]
  congr 1
  funext _
  rw [Prog.bind_assoc]
  congr 1
  funext a
  unfold k0_part91_skel
  simp only [body4]
  simp only [Prog.bind_assoc]
  rfl

/-- The exchange read in and the first batch combined. -/
theorem comb1 {α : Type} (L : grid0.Coords) (h : k0_cond1 L = 1#1) (v18 : BitVec 32) (K : TProg (F := F) L α) : (do
     let ⟨v457, v462⟩ ← k0_part9 (F := F) L xV (Memref.isWhole_whole _) oV (Memref.isWhole_whole _) bufV (Memref.isWhole_whole _) partV (Memref.isWhole_whole _) combV (Memref.isWhole_whole _)
            obufV (Memref.isWhole_whole _) shV (Memref.isWhole_whole _) cc0_scratch5 cc0_scratch6 cc0_scratch7 cc0_scoped0 cc0_scoped1 h
     let ⟨v492, v497⟩ ← k0_part10 (F := F) L xV (Memref.isWhole_whole _) oV (Memref.isWhole_whole _) bufV (Memref.isWhole_whole _) partV (Memref.isWhole_whole _) combV (Memref.isWhole_whole _)
            obufV (Memref.isWhole_whole _) shV (Memref.isWhole_whole _) cc0_scratch5 cc0_scratch6 cc0_scratch7 cc0_scoped0 cc0_scoped1 v457 v462
     let ⟨v529, v534⟩ ← k0_part11 (F := F) L xV (Memref.isWhole_whole _) oV (Memref.isWhole_whole _) bufV (Memref.isWhole_whole _) partV (Memref.isWhole_whole _) combV (Memref.isWhole_whole _)
            obufV (Memref.isWhole_whole _) shV (Memref.isWhole_whole _) cc0_scratch5 cc0_scratch6 cc0_scratch7 cc0_scoped0 cc0_scoped1 v492 v497
     let ⟨v569, v574⟩ ← k0_part12 (F := F) L xV (Memref.isWhole_whole _) oV (Memref.isWhole_whole _) bufV (Memref.isWhole_whole _) partV (Memref.isWhole_whole _) combV (Memref.isWhole_whole _)
            obufV (Memref.isWhole_whole _) shV (Memref.isWhole_whole _) cc0_scratch5 cc0_scratch6 cc0_scratch7 cc0_scoped0 cc0_scoped1 v529 v534
     let ⟨v606, v611⟩ ← k0_part13 (F := F) L xV (Memref.isWhole_whole _) oV (Memref.isWhole_whole _) bufV (Memref.isWhole_whole _) partV (Memref.isWhole_whole _) combV (Memref.isWhole_whole _)
            obufV (Memref.isWhole_whole _) shV (Memref.isWhole_whole _) cc0_scratch5 cc0_scratch6 cc0_scratch7 cc0_scoped0 cc0_scoped1 v569 v574
     let ⟨v641, v646⟩ ← k0_part14 (F := F) L xV (Memref.isWhole_whole _) oV (Memref.isWhole_whole _) bufV (Memref.isWhole_whole _) partV (Memref.isWhole_whole _) combV (Memref.isWhole_whole _)
            obufV (Memref.isWhole_whole _) shV (Memref.isWhole_whole _) cc0_scratch5 cc0_scratch6 cc0_scratch7 cc0_scoped0 cc0_scoped1 v606 v611
     let ⟨v684, c0_i32_415⟩ ← k0_part15 (F := F) L xV (Memref.isWhole_whole _) oV (Memref.isWhole_whole _) bufV (Memref.isWhole_whole _) partV (Memref.isWhole_whole _) combV (Memref.isWhole_whole _)
            obufV (Memref.isWhole_whole _) shV (Memref.isWhole_whole _) cc0_scratch5 cc0_scratch6 cc0_scratch7 cc0_scoped0 cc0_scoped1 v641 v646
     let ⟨v718, v723⟩ ← k0_part16 (F := F) L xV (Memref.isWhole_whole _) oV (Memref.isWhole_whole _) bufV (Memref.isWhole_whole _) partV (Memref.isWhole_whole _) combV (Memref.isWhole_whole _)
            obufV (Memref.isWhole_whole _) shV (Memref.isWhole_whole _) cc0_scratch5 cc0_scratch6 cc0_scratch7 cc0_scoped0 cc0_scoped1 v684 c0_i32_415
     let v759 ← k0_part17 (F := F) L xV (Memref.isWhole_whole _) oV (Memref.isWhole_whole _) bufV (Memref.isWhole_whole _) partV (Memref.isWhole_whole _) combV (Memref.isWhole_whole _)
            obufV (Memref.isWhole_whole _) shV (Memref.isWhole_whole _) cc0_scratch5 cc0_scratch6 cc0_scratch7 cc0_scoped0 cc0_scoped1 v718 v723
     let ⟨v790, v795⟩ ← k0_part18 (F := F) L xV (Memref.isWhole_whole _) oV (Memref.isWhole_whole _) bufV (Memref.isWhole_whole _) partV (Memref.isWhole_whole _) combV (Memref.isWhole_whole _)
            obufV (Memref.isWhole_whole _) shV (Memref.isWhole_whole _) cc0_scratch5 cc0_scratch6 cc0_scratch7 cc0_scoped0 cc0_scoped1 v759
     let ⟨v830, v835⟩ ← k0_part19 (F := F) L xV (Memref.isWhole_whole _) oV (Memref.isWhole_whole _) bufV (Memref.isWhole_whole _) partV (Memref.isWhole_whole _) combV (Memref.isWhole_whole _)
            obufV (Memref.isWhole_whole _) shV (Memref.isWhole_whole _) cc0_scratch5 cc0_scratch6 cc0_scratch7 cc0_scoped0 cc0_scoped1 v790 v795
     let ⟨v867, v872⟩ ← k0_part20 (F := F) L xV (Memref.isWhole_whole _) oV (Memref.isWhole_whole _) bufV (Memref.isWhole_whole _) partV (Memref.isWhole_whole _) combV (Memref.isWhole_whole _)
            obufV (Memref.isWhole_whole _) shV (Memref.isWhole_whole _) cc0_scratch5 cc0_scratch6 cc0_scratch7 cc0_scoped0 cc0_scoped1 v830 v835
     let ⟨v902, v907⟩ ← k0_part21 (F := F) L xV (Memref.isWhole_whole _) oV (Memref.isWhole_whole _) bufV (Memref.isWhole_whole _) partV (Memref.isWhole_whole _) combV (Memref.isWhole_whole _)
            obufV (Memref.isWhole_whole _) shV (Memref.isWhole_whole _) cc0_scratch5 cc0_scratch6 cc0_scratch7 cc0_scoped0 cc0_scoped1 v867 v872
     let ⟨v939, v944⟩ ← k0_part22 (F := F) L xV (Memref.isWhole_whole _) oV (Memref.isWhole_whole _) bufV (Memref.isWhole_whole _) partV (Memref.isWhole_whole _) combV (Memref.isWhole_whole _)
            obufV (Memref.isWhole_whole _) shV (Memref.isWhole_whole _) cc0_scratch5 cc0_scratch6 cc0_scratch7 cc0_scoped0 cc0_scoped1 v902 v907
     let ⟨v979, v984⟩ ← k0_part23 (F := F) L xV (Memref.isWhole_whole _) oV (Memref.isWhole_whole _) bufV (Memref.isWhole_whole _) partV (Memref.isWhole_whole _) combV (Memref.isWhole_whole _)
            obufV (Memref.isWhole_whole _) shV (Memref.isWhole_whole _) cc0_scratch5 cc0_scratch6 cc0_scratch7 cc0_scoped0 cc0_scoped1 v939 v944
     let ⟨v1016, v1021⟩ ← k0_part24 (F := F) L xV (Memref.isWhole_whole _) oV (Memref.isWhole_whole _) bufV (Memref.isWhole_whole _) partV (Memref.isWhole_whole _) combV (Memref.isWhole_whole _)
            obufV (Memref.isWhole_whole _) shV (Memref.isWhole_whole _) cc0_scratch5 cc0_scratch6 cc0_scratch7 cc0_scoped0 cc0_scoped1 v979 v984
     let ⟨v1051, v1056⟩ ← k0_part25 (F := F) L xV (Memref.isWhole_whole _) oV (Memref.isWhole_whole _) bufV (Memref.isWhole_whole _) partV (Memref.isWhole_whole _) combV (Memref.isWhole_whole _)
            obufV (Memref.isWhole_whole _) shV (Memref.isWhole_whole _) cc0_scratch5 cc0_scratch6 cc0_scratch7 cc0_scoped0 cc0_scoped1 v1016 v1021
     k0_part26 (F := F) L xV (Memref.isWhole_whole _) oV (Memref.isWhole_whole _) bufV (Memref.isWhole_whole _) partV (Memref.isWhole_whole _) combV (Memref.isWhole_whole _)
            obufV (Memref.isWhole_whole _) shV (Memref.isWhole_whole _) cc0_scratch5 cc0_scratch6 cc0_scratch7 cc0_scoped0 cc0_scoped1 v18 h v1051 v1056
     K) = (do
     collect L h
     outBatch L h 0
     K) := by
  simp only [k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton]
  rfl

/-- The second batch, its first five groups. -/
theorem comb2 {α : Type} (L : grid0.Coords) (h : k0_cond1 L = 1#1) (v18 : BitVec 32) (K : TProg (F := F) L α) : (do
     let ⟨v1124, v1129, v1132⟩ ← k0_part27 (F := F) L xV (Memref.isWhole_whole _) oV (Memref.isWhole_whole _) bufV (Memref.isWhole_whole _) partV (Memref.isWhole_whole _) combV (Memref.isWhole_whole _)
            obufV (Memref.isWhole_whole _) shV (Memref.isWhole_whole _) cc0_scratch5 cc0_scratch6 cc0_scratch7 cc0_scoped0 cc0_scoped1
     let ⟨v1164, v1169, c7_i32_703, c1_i32_704⟩ ← k0_part28 (F := F) L xV (Memref.isWhole_whole _) oV (Memref.isWhole_whole _) bufV (Memref.isWhole_whole _) partV (Memref.isWhole_whole _) combV (Memref.isWhole_whole _)
            obufV (Memref.isWhole_whole _) shV (Memref.isWhole_whole _) cc0_scratch5 cc0_scratch6 cc0_scratch7 cc0_scoped0 cc0_scoped1 v1124 v1129 v1132
     let ⟨v1201, v1206, c3_i32_725, c1_i32_726⟩ ← k0_part29 (F := F) L xV (Memref.isWhole_whole _) oV (Memref.isWhole_whole _) bufV (Memref.isWhole_whole _) partV (Memref.isWhole_whole _) combV (Memref.isWhole_whole _)
            obufV (Memref.isWhole_whole _) shV (Memref.isWhole_whole _) cc0_scratch5 cc0_scratch6 cc0_scratch7 cc0_scoped0 cc0_scoped1 v1164 v1169 c7_i32_703 c1_i32_704
     let ⟨v1236, v1241, v1244⟩ ← k0_part30 (F := F) L xV (Memref.isWhole_whole _) oV (Memref.isWhole_whole _) bufV (Memref.isWhole_whole _) partV (Memref.isWhole_whole _) combV (Memref.isWhole_whole _)
            obufV (Memref.isWhole_whole _) shV (Memref.isWhole_whole _) cc0_scratch5 cc0_scratch6 cc0_scratch7 cc0_scoped0 cc0_scoped1 v1201 v1206 c3_i32_725 c1_i32_726
     let ⟨v1273, v1278, v1281⟩ ← k0_part31 (F := F) L xV (Memref.isWhole_whole _) oV (Memref.isWhole_whole _) bufV (Memref.isWhole_whole _) partV (Memref.isWhole_whole _) combV (Memref.isWhole_whole _)
            obufV (Memref.isWhole_whole _) shV (Memref.isWhole_whole _) cc0_scratch5 cc0_scratch6 cc0_scratch7 cc0_scoped0 cc0_scoped1 v1236 v1241 v1244
     let ⟨v1313, v1318, c6_i32_792, c1_i32_793⟩ ← k0_part32 (F := F) L xV (Memref.isWhole_whole _) oV (Memref.isWhole_whole _) bufV (Memref.isWhole_whole _) partV (Memref.isWhole_whole _) combV (Memref.isWhole_whole _)
            obufV (Memref.isWhole_whole _) shV (Memref.isWhole_whole _) cc0_scratch5 cc0_scratch6 cc0_scratch7 cc0_scoped0 cc0_scoped1 v1273 v1278 v1281
     let ⟨v1350, v1355, c1_i32_814, c1_i32_815⟩ ← k0_part33 (F := F) L xV (Memref.isWhole_whole _) oV (Memref.isWhole_whole _) bufV (Memref.isWhole_whole _) partV (Memref.isWhole_whole _) combV (Memref.isWhole_whole _)
            obufV (Memref.isWhole_whole _) shV (Memref.isWhole_whole _) cc0_scratch5 cc0_scratch6 cc0_scratch7 cc0_scoped0 cc0_scoped1 v1313 v1318 c6_i32_792 c1_i32_793
     let ⟨v1385, v1390, v1393⟩ ← k0_part34 (F := F) L xV (Memref.isWhole_whole _) oV (Memref.isWhole_whole _) bufV (Memref.isWhole_whole _) partV (Memref.isWhole_whole _) combV (Memref.isWhole_whole _)
            obufV (Memref.isWhole_whole _) shV (Memref.isWhole_whole _) cc0_scratch5 cc0_scratch6 cc0_scratch7 cc0_scoped0 cc0_scoped1 v1350 v1355 c1_i32_814 c1_i32_815
     let v1428 ← k0_part35 (F := F) L xV (Memref.isWhole_whole _) oV (Memref.isWhole_whole _) bufV (Memref.isWhole_whole _) partV (Memref.isWhole_whole _) combV (Memref.isWhole_whole _)
            obufV (Memref.isWhole_whole _) shV (Memref.isWhole_whole _) cc0_scratch5 cc0_scratch6 cc0_scratch7 cc0_scoped0 cc0_scoped1 v1385 v1390 v1393
     let ⟨v1462, v1467, c4_i32_881, c1_i32_882⟩ ← k0_part36 (F := F) L xV (Memref.isWhole_whole _) oV (Memref.isWhole_whole _) bufV (Memref.isWhole_whole _) partV (Memref.isWhole_whole _) combV (Memref.isWhole_whole _)
            obufV (Memref.isWhole_whole _) shV (Memref.isWhole_whole _) cc0_scratch5 cc0_scratch6 cc0_scratch7 cc0_scoped0 cc0_scoped1 v1428
     k0_part37 (F := F) L xV (Memref.isWhole_whole _) oV (Memref.isWhole_whole _) bufV (Memref.isWhole_whole _) partV (Memref.isWhole_whole _) combV (Memref.isWhole_whole _)
            obufV (Memref.isWhole_whole _) shV (Memref.isWhole_whole _) cc0_scratch5 cc0_scratch6 cc0_scratch7 cc0_scoped0 cc0_scoped1 v1462 v1467 c4_i32_881 c1_i32_882
     K) = (do
     group L 1 0
     group L 1 1
     group L 1 2
     group L 1 3
     group L 1 4
     K) := by
  simp only [k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton]
  rfl

/-- The rest of the second batch, and one group of the third. -/
theorem comb3 {α : Type} (L : grid0.Coords) (h : k0_cond1 L = 1#1) (v18 : BitVec 32) (K : (Σ' (_ : BitVec 32), BitVec 32) → TProg (F := F) L α) : (do
     let ⟨v1534, v1539, v1542⟩ ← k0_part38 (F := F) L xV (Memref.isWhole_whole _) oV (Memref.isWhole_whole _) bufV (Memref.isWhole_whole _) partV (Memref.isWhole_whole _) combV (Memref.isWhole_whole _)
            obufV (Memref.isWhole_whole _) shV (Memref.isWhole_whole _) cc0_scratch5 cc0_scratch6 cc0_scratch7 cc0_scoped0 cc0_scoped1
     let ⟨v1574, v1579, c7_i32_948, c1_i32_949⟩ ← k0_part39 (F := F) L xV (Memref.isWhole_whole _) oV (Memref.isWhole_whole _) bufV (Memref.isWhole_whole _) partV (Memref.isWhole_whole _) combV (Memref.isWhole_whole _)
            obufV (Memref.isWhole_whole _) shV (Memref.isWhole_whole _) cc0_scratch5 cc0_scratch6 cc0_scratch7 cc0_scoped0 cc0_scoped1 v1534 v1539 v1542
     let ⟨v1611, v1616, c3_i32_970, c1_i32_971⟩ ← k0_part40 (F := F) L xV (Memref.isWhole_whole _) oV (Memref.isWhole_whole _) bufV (Memref.isWhole_whole _) partV (Memref.isWhole_whole _) combV (Memref.isWhole_whole _)
            obufV (Memref.isWhole_whole _) shV (Memref.isWhole_whole _) cc0_scratch5 cc0_scratch6 cc0_scratch7 cc0_scoped0 cc0_scoped1 v1574 v1579 c7_i32_948 c1_i32_949
     let ⟨v1646, v1651, v1654⟩ ← k0_part41 (F := F) L xV (Memref.isWhole_whole _) oV (Memref.isWhole_whole _) bufV (Memref.isWhole_whole _) partV (Memref.isWhole_whole _) combV (Memref.isWhole_whole _)
            obufV (Memref.isWhole_whole _) shV (Memref.isWhole_whole _) cc0_scratch5 cc0_scratch6 cc0_scratch7 cc0_scoped0 cc0_scoped1 v1611 v1616 c3_i32_970 c1_i32_971
     let ⟨v1683, v1688, v1691⟩ ← k0_part42 (F := F) L xV (Memref.isWhole_whole _) oV (Memref.isWhole_whole _) bufV (Memref.isWhole_whole _) partV (Memref.isWhole_whole _) combV (Memref.isWhole_whole _)
            obufV (Memref.isWhole_whole _) shV (Memref.isWhole_whole _) cc0_scratch5 cc0_scratch6 cc0_scratch7 cc0_scoped0 cc0_scoped1 v1646 v1651 v1654
     let ⟨v1723, v1728, c6_i32_1037, c1_i32_1038⟩ ← k0_part43 (F := F) L xV (Memref.isWhole_whole _) oV (Memref.isWhole_whole _) bufV (Memref.isWhole_whole _) partV (Memref.isWhole_whole _) combV (Memref.isWhole_whole _)
            obufV (Memref.isWhole_whole _) shV (Memref.isWhole_whole _) cc0_scratch5 cc0_scratch6 cc0_scratch7 cc0_scoped0 cc0_scoped1 v1683 v1688 v1691
     let ⟨v1762, v1766⟩ ← k0_part44 (F := F) L xV (Memref.isWhole_whole _) oV (Memref.isWhole_whole _) bufV (Memref.isWhole_whole _) partV (Memref.isWhole_whole _) combV (Memref.isWhole_whole _)
            obufV (Memref.isWhole_whole _) shV (Memref.isWhole_whole _) cc0_scratch5 cc0_scratch6 cc0_scratch7 cc0_scoped0 cc0_scoped1 v18 h v1723 v1728 c6_i32_1037 c1_i32_1038
     let ⟨v1796, v1801⟩ ← k0_part45 (F := F) L xV (Memref.isWhole_whole _) oV (Memref.isWhole_whole _) bufV (Memref.isWhole_whole _) partV (Memref.isWhole_whole _) combV (Memref.isWhole_whole _)
            obufV (Memref.isWhole_whole _) shV (Memref.isWhole_whole _) cc0_scratch5 cc0_scratch6 cc0_scratch7 cc0_scoped0 cc0_scoped1 v1762 v1766
     let z ← k0_part46 (F := F) L xV (Memref.isWhole_whole _) oV (Memref.isWhole_whole _) bufV (Memref.isWhole_whole _) partV (Memref.isWhole_whole _) combV (Memref.isWhole_whole _)
            obufV (Memref.isWhole_whole _) shV (Memref.isWhole_whole _) cc0_scratch5 cc0_scratch6 cc0_scratch7 cc0_scoped0 cc0_scoped1 v1796 v1801
     K z) = (do
     group L 1 5
     group L 1 6
     group L 1 7
     emit L h 1
     group L 2 0
     K ⟨0#32, 2#32⟩) := by
  simp only [k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton]
  rfl

/-- Five more groups of the third batch. -/
theorem comb4 {α : Type} (L : grid0.Coords) (h : k0_cond1 L = 1#1) (v18 : BitVec 32) (c0_i32_1100 c2_i32_1101 : BitVec 32) (K : (Σ' (_ : BitVec 32), BitVec 32) → TProg (F := F) L α) : (do
     let ⟨v1873, v1878⟩ ← k0_part47 (F := F) L xV (Memref.isWhole_whole _) oV (Memref.isWhole_whole _) bufV (Memref.isWhole_whole _) partV (Memref.isWhole_whole _) combV (Memref.isWhole_whole _)
            obufV (Memref.isWhole_whole _) shV (Memref.isWhole_whole _) cc0_scratch5 cc0_scratch6 cc0_scratch7 cc0_scoped0 cc0_scoped1 c0_i32_1100 c2_i32_1101
     let ⟨v1908, v1913⟩ ← k0_part48 (F := F) L xV (Memref.isWhole_whole _) oV (Memref.isWhole_whole _) bufV (Memref.isWhole_whole _) partV (Memref.isWhole_whole _) combV (Memref.isWhole_whole _)
            obufV (Memref.isWhole_whole _) shV (Memref.isWhole_whole _) cc0_scratch5 cc0_scratch6 cc0_scratch7 cc0_scoped0 cc0_scoped1 v1873 v1878
     let ⟨v1945, v1950⟩ ← k0_part49 (F := F) L xV (Memref.isWhole_whole _) oV (Memref.isWhole_whole _) bufV (Memref.isWhole_whole _) partV (Memref.isWhole_whole _) combV (Memref.isWhole_whole _)
            obufV (Memref.isWhole_whole _) shV (Memref.isWhole_whole _) cc0_scratch5 cc0_scratch6 cc0_scratch7 cc0_scoped0 cc0_scoped1 v1908 v1913
     let ⟨v1985, v1990⟩ ← k0_part50 (F := F) L xV (Memref.isWhole_whole _) oV (Memref.isWhole_whole _) bufV (Memref.isWhole_whole _) partV (Memref.isWhole_whole _) combV (Memref.isWhole_whole _)
            obufV (Memref.isWhole_whole _) shV (Memref.isWhole_whole _) cc0_scratch5 cc0_scratch6 cc0_scratch7 cc0_scoped0 cc0_scoped1 v1945 v1950
     let ⟨v2022, v2027⟩ ← k0_part51 (F := F) L xV (Memref.isWhole_whole _) oV (Memref.isWhole_whole _) bufV (Memref.isWhole_whole _) partV (Memref.isWhole_whole _) combV (Memref.isWhole_whole _)
            obufV (Memref.isWhole_whole _) shV (Memref.isWhole_whole _) cc0_scratch5 cc0_scratch6 cc0_scratch7 cc0_scoped0 cc0_scoped1 v1985 v1990
     let ⟨v2057, v2062⟩ ← k0_part52 (F := F) L xV (Memref.isWhole_whole _) oV (Memref.isWhole_whole _) bufV (Memref.isWhole_whole _) partV (Memref.isWhole_whole _) combV (Memref.isWhole_whole _)
            obufV (Memref.isWhole_whole _) shV (Memref.isWhole_whole _) cc0_scratch5 cc0_scratch6 cc0_scratch7 cc0_scoped0 cc0_scoped1 v2022 v2027
     let ⟨v2094, v2099⟩ ← k0_part53 (F := F) L xV (Memref.isWhole_whole _) oV (Memref.isWhole_whole _) bufV (Memref.isWhole_whole _) partV (Memref.isWhole_whole _) combV (Memref.isWhole_whole _)
            obufV (Memref.isWhole_whole _) shV (Memref.isWhole_whole _) cc0_scratch5 cc0_scratch6 cc0_scratch7 cc0_scoped0 cc0_scoped1 v2057 v2062
     let ⟨v2134, v2139⟩ ← k0_part54 (F := F) L xV (Memref.isWhole_whole _) oV (Memref.isWhole_whole _) bufV (Memref.isWhole_whole _) partV (Memref.isWhole_whole _) combV (Memref.isWhole_whole _)
            obufV (Memref.isWhole_whole _) shV (Memref.isWhole_whole _) cc0_scratch5 cc0_scratch6 cc0_scratch7 cc0_scoped0 cc0_scoped1 v2094 v2099
     let ⟨v2172, v2176⟩ ← k0_part55 (F := F) L xV (Memref.isWhole_whole _) oV (Memref.isWhole_whole _) bufV (Memref.isWhole_whole _) partV (Memref.isWhole_whole _) combV (Memref.isWhole_whole _)
            obufV (Memref.isWhole_whole _) shV (Memref.isWhole_whole _) cc0_scratch5 cc0_scratch6 cc0_scratch7 cc0_scoped0 cc0_scoped1 v2134 v2139
     let ⟨v2206, v2211⟩ ← k0_part56 (F := F) L xV (Memref.isWhole_whole _) oV (Memref.isWhole_whole _) bufV (Memref.isWhole_whole _) partV (Memref.isWhole_whole _) combV (Memref.isWhole_whole _)
            obufV (Memref.isWhole_whole _) shV (Memref.isWhole_whole _) cc0_scratch5 cc0_scratch6 cc0_scratch7 cc0_scoped0 cc0_scoped1 v2172 v2176
     let z ← k0_part57 (F := F) L xV (Memref.isWhole_whole _) oV (Memref.isWhole_whole _) bufV (Memref.isWhole_whole _) partV (Memref.isWhole_whole _) combV (Memref.isWhole_whole _)
            obufV (Memref.isWhole_whole _) shV (Memref.isWhole_whole _) cc0_scratch5 cc0_scratch6 cc0_scratch7 cc0_scoped0 cc0_scoped1 v2206 v2211
     K z) = (do
     group L 2 1
     group L 2 2
     group L 2 3
     group L 2 4
     group L 2 5
     K ⟨0#32, 2#32⟩) := by
  simp only [k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton]
  rfl

/-- The rest of the third batch, and two groups of the fourth. -/
theorem comb5 {α : Type} (L : grid0.Coords) (h : k0_cond1 L = 1#1) (v18 : BitVec 32) (c0_i32_1345 c2_i32_1346 : BitVec 32) (K : TProg (F := F) L α) : (do
     let ⟨v2283, v2288⟩ ← k0_part58 (F := F) L xV (Memref.isWhole_whole _) oV (Memref.isWhole_whole _) bufV (Memref.isWhole_whole _) partV (Memref.isWhole_whole _) combV (Memref.isWhole_whole _)
            obufV (Memref.isWhole_whole _) shV (Memref.isWhole_whole _) cc0_scratch5 cc0_scratch6 cc0_scratch7 cc0_scoped0 cc0_scoped1 c0_i32_1345 c2_i32_1346
     let ⟨v2318, v2323⟩ ← k0_part59 (F := F) L xV (Memref.isWhole_whole _) oV (Memref.isWhole_whole _) bufV (Memref.isWhole_whole _) partV (Memref.isWhole_whole _) combV (Memref.isWhole_whole _)
            obufV (Memref.isWhole_whole _) shV (Memref.isWhole_whole _) cc0_scratch5 cc0_scratch6 cc0_scratch7 cc0_scoped0 cc0_scoped1 v2283 v2288
     let ⟨v2355, v2360⟩ ← k0_part60 (F := F) L xV (Memref.isWhole_whole _) oV (Memref.isWhole_whole _) bufV (Memref.isWhole_whole _) partV (Memref.isWhole_whole _) combV (Memref.isWhole_whole _)
            obufV (Memref.isWhole_whole _) shV (Memref.isWhole_whole _) cc0_scratch5 cc0_scratch6 cc0_scratch7 cc0_scoped0 cc0_scoped1 v2318 v2323
     let ⟨v2395, v2400⟩ ← k0_part61 (F := F) L xV (Memref.isWhole_whole _) oV (Memref.isWhole_whole _) bufV (Memref.isWhole_whole _) partV (Memref.isWhole_whole _) combV (Memref.isWhole_whole _)
            obufV (Memref.isWhole_whole _) shV (Memref.isWhole_whole _) cc0_scratch5 cc0_scratch6 cc0_scratch7 cc0_scoped0 cc0_scoped1 v2355 v2360
     let ⟨v2428, v2433, v2436⟩ ← k0_part62 (F := F) L xV (Memref.isWhole_whole _) oV (Memref.isWhole_whole _) bufV (Memref.isWhole_whole _) partV (Memref.isWhole_whole _) combV (Memref.isWhole_whole _)
            obufV (Memref.isWhole_whole _) shV (Memref.isWhole_whole _) cc0_scratch5 cc0_scratch6 cc0_scratch7 cc0_scoped0 cc0_scoped1 v18 h v2395 v2400
     let ⟨v2468, v2473, c5_i32_1477, c3_i32_1478⟩ ← k0_part63 (F := F) L xV (Memref.isWhole_whole _) oV (Memref.isWhole_whole _) bufV (Memref.isWhole_whole _) partV (Memref.isWhole_whole _) combV (Memref.isWhole_whole _)
            obufV (Memref.isWhole_whole _) shV (Memref.isWhole_whole _) cc0_scratch5 cc0_scratch6 cc0_scratch7 cc0_scoped0 cc0_scoped1 v2428 v2433 v2436
     let ⟨v2506, v2510, c1_i32_1499, c3_i32_1500⟩ ← k0_part64 (F := F) L xV (Memref.isWhole_whole _) oV (Memref.isWhole_whole _) bufV (Memref.isWhole_whole _) partV (Memref.isWhole_whole _) combV (Memref.isWhole_whole _)
            obufV (Memref.isWhole_whole _) shV (Memref.isWhole_whole _) cc0_scratch5 cc0_scratch6 cc0_scratch7 cc0_scoped0 cc0_scoped1 v2468 v2473 c5_i32_1477 c3_i32_1478
     let ⟨v2540, v2545, v2548⟩ ← k0_part65 (F := F) L xV (Memref.isWhole_whole _) oV (Memref.isWhole_whole _) bufV (Memref.isWhole_whole _) partV (Memref.isWhole_whole _) combV (Memref.isWhole_whole _)
            obufV (Memref.isWhole_whole _) shV (Memref.isWhole_whole _) cc0_scratch5 cc0_scratch6 cc0_scratch7 cc0_scoped0 cc0_scoped1 v2506 v2510 c1_i32_1499 c3_i32_1500
     k0_part66 (F := F) L xV (Memref.isWhole_whole _) oV (Memref.isWhole_whole _) bufV (Memref.isWhole_whole _) partV (Memref.isWhole_whole _) combV (Memref.isWhole_whole _)
            obufV (Memref.isWhole_whole _) shV (Memref.isWhole_whole _) cc0_scratch5 cc0_scratch6 cc0_scratch7 cc0_scoped0 cc0_scoped1 v2540 v2545 v2548
     K) = (do
     group L 2 6
     group L 2 7
     emit L h 2
     group L 3 0
     group L 3 1
     K) := by
  simp only [k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton]
  rfl

/-- The whole of the combination but the fourth batch's last six groups. -/
theorem part80_eq (L : grid0.Coords) (h : k0_cond1 L = 1#1) (v18 : BitVec 32) : k0_part80 (F := F) L xV (Memref.isWhole_whole _) oV (Memref.isWhole_whole _) bufV (Memref.isWhole_whole _) partV (Memref.isWhole_whole _) combV (Memref.isWhole_whole _)
            obufV (Memref.isWhole_whole _) shV (Memref.isWhole_whole _) cc0_scratch5 cc0_scratch6 cc0_scratch7 cc0_scoped0 cc0_scoped1 v18 h = (do
     collect L h
     outBatch L h 0
     group L 1 0
     group L 1 1
     group L 1 2
     group L 1 3
     group L 1 4
     group L 1 5
     group L 1 6
     group L 1 7
     emit L h 1
     group L 2 0
     group L 2 1
     group L 2 2
     group L 2 3
     group L 2 4
     group L 2 5
     group L 2 6
     group L 2 7
     emit L h 2
     group L 3 0
     group L 3 1
     let ⟨v2617, v2622, c4_i32_1566, c3_i32_1567⟩ ← k0_part67 (F := F) L xV (Memref.isWhole_whole _) oV (Memref.isWhole_whole _) bufV (Memref.isWhole_whole _) partV (Memref.isWhole_whole _) combV (Memref.isWhole_whole _)
            obufV (Memref.isWhole_whole _) shV (Memref.isWhole_whole _) cc0_scratch5 cc0_scratch6 cc0_scratch7 cc0_scoped0 cc0_scoped1
     let ⟨v2652, v2657, v2660⟩ ← k0_part68 (F := F) L xV (Memref.isWhole_whole _) oV (Memref.isWhole_whole _) bufV (Memref.isWhole_whole _) partV (Memref.isWhole_whole _) combV (Memref.isWhole_whole _)
            obufV (Memref.isWhole_whole _) shV (Memref.isWhole_whole _) cc0_scratch5 cc0_scratch6 cc0_scratch7 cc0_scoped0 cc0_scoped1 v2617 v2622 c4_i32_1566 c3_i32_1567
     pure ⟨v2652, v2657, v2660⟩) := by
  rw [k0_part80_eq_skeleton]
  unfold k0_part80_skel
  refine (comb1 L h _ _).trans (bindR fun _ => bindR fun _ => ?_)
  refine (comb2 L h v18 _).trans (bindR fun _ => bindR fun _ => bindR fun _ => bindR fun _ => bindR fun _ => ?_)
  refine (comb3 L h _ _).trans (bindR fun _ => bindR fun _ => bindR fun _ => bindR fun _ => bindR fun _ => ?_)
  refine (comb4 L h v18 _ _ _).trans (bindR fun _ => bindR fun _ => bindR fun _ => bindR fun _ => bindR fun _ => ?_)
  exact comb5 L h _ _ _ _

/-- The fourth batch's last six groups and its copy out, with what precedes a program of its own. -/
theorem tail_eq (L : grid0.Coords) (h : k0_cond1 L = 1#1) : (do
     let ⟨v2617, v2622, c4_i32_1566, c3_i32_1567⟩ ← k0_part67 (F := F) L xV (Memref.isWhole_whole _) oV (Memref.isWhole_whole _) bufV (Memref.isWhole_whole _) partV (Memref.isWhole_whole _) combV (Memref.isWhole_whole _)
            obufV (Memref.isWhole_whole _) shV (Memref.isWhole_whole _) cc0_scratch5 cc0_scratch6 cc0_scratch7 cc0_scoped0 cc0_scoped1
     let ⟨v2652, v2657, v2660⟩ ← k0_part68 (F := F) L xV (Memref.isWhole_whole _) oV (Memref.isWhole_whole _) bufV (Memref.isWhole_whole _) partV (Memref.isWhole_whole _) combV (Memref.isWhole_whole _)
            obufV (Memref.isWhole_whole _) shV (Memref.isWhole_whole _) cc0_scratch5 cc0_scratch6 cc0_scratch7 cc0_scoped0 cc0_scoped1 v2617 v2622 c4_i32_1566 c3_i32_1567
     let ⟨v2689, v2694, v2697⟩ : Σ' (v2689 : FVec F S16 .f32) (v2694 : FVec F S16 .f32), Vec F S1x1x16 .f32 ← k0_part69 (F := F) L xV (Memref.isWhole_whole _) oV (Memref.isWhole_whole _) bufV (Memref.isWhole_whole _) partV (Memref.isWhole_whole _) combV (Memref.isWhole_whole _)
            obufV (Memref.isWhole_whole _) shV (Memref.isWhole_whole _) cc0_scratch5 cc0_scratch6 cc0_scratch7 cc0_scoped0 cc0_scoped1 v2652 v2657 v2660
     let ⟨v2729, v2734, c7_i32_1633, c3_i32_1634⟩ : Σ' (v2729 : FVec F S16 .f32) (v2734 : FVec F S16 .f32) (c7_i32_1633 : BitVec 32), BitVec 32 ← k0_part70 (F := F) L xV (Memref.isWhole_whole _) oV (Memref.isWhole_whole _) bufV (Memref.isWhole_whole _) partV (Memref.isWhole_whole _) combV (Memref.isWhole_whole _)
            obufV (Memref.isWhole_whole _) shV (Memref.isWhole_whole _) cc0_scratch5 cc0_scratch6 cc0_scratch7 cc0_scoped0 cc0_scoped1 v2689 v2694 v2697
     let ⟨v2766, v2771, c2_i32_1655, c3_i32_1656⟩ : Σ' (v2766 : FVec F S16 .f32) (v2771 : FVec F S16 .f32) (c2_i32_1655 : BitVec 32), BitVec 32 ← k0_part71 (F := F) L xV (Memref.isWhole_whole _) oV (Memref.isWhole_whole _) bufV (Memref.isWhole_whole _) partV (Memref.isWhole_whole _) combV (Memref.isWhole_whole _)
            obufV (Memref.isWhole_whole _) shV (Memref.isWhole_whole _) cc0_scratch5 cc0_scratch6 cc0_scratch7 cc0_scoped0 cc0_scoped1 v2729 v2734 c7_i32_1633 c3_i32_1634
     let ⟨v2801, v2806, v2809⟩ : Σ' (v2801 : FVec F S16 .f32) (v2806 : FVec F S16 .f32), Vec F S1x1x16 .f32 ← k0_part72 (F := F) L xV (Memref.isWhole_whole _) oV (Memref.isWhole_whole _) bufV (Memref.isWhole_whole _) partV (Memref.isWhole_whole _) combV (Memref.isWhole_whole _)
            obufV (Memref.isWhole_whole _) shV (Memref.isWhole_whole _) cc0_scratch5 cc0_scratch6 cc0_scratch7 cc0_scoped0 cc0_scoped1 v2766 v2771 c2_i32_1655 c3_i32_1656
     let ⟨v2838, v2843, v2846⟩ : Σ' (v2838 : FVec F S16 .f32) (v2843 : FVec F S16 .f32), Vec F S1x1x16 .f32 ← k0_part73 (F := F) L xV (Memref.isWhole_whole _) oV (Memref.isWhole_whole _) bufV (Memref.isWhole_whole _) partV (Memref.isWhole_whole _) combV (Memref.isWhole_whole _)
            obufV (Memref.isWhole_whole _) shV (Memref.isWhole_whole _) cc0_scratch5 cc0_scratch6 cc0_scratch7 cc0_scoped0 cc0_scoped1 v2801 v2806 v2809
     let ⟨v2878, v2883, c5_i32_1722, c3_i32_1723⟩ : Σ' (v2878 : FVec F S16 .f32) (v2883 : FVec F S16 .f32) (c5_i32_1722 : BitVec 32), BitVec 32 ← k0_part74 (F := F) L xV (Memref.isWhole_whole _) oV (Memref.isWhole_whole _) bufV (Memref.isWhole_whole _) partV (Memref.isWhole_whole _) combV (Memref.isWhole_whole _)
            obufV (Memref.isWhole_whole _) shV (Memref.isWhole_whole _) cc0_scratch5 cc0_scratch6 cc0_scratch7 cc0_scoped0 cc0_scoped1 v2838 v2843 v2846
     let ⟨v2916, v2920, c1_i32_1744, c3_i32_1745⟩ : Σ' (v2916 : FVec F S16 .f32) (v2920 : FVec F S16 .f32) (c1_i32_1744 : BitVec 32), BitVec 32 ← k0_part75 (F := F) L xV (Memref.isWhole_whole _) oV (Memref.isWhole_whole _) bufV (Memref.isWhole_whole _) partV (Memref.isWhole_whole _) combV (Memref.isWhole_whole _)
            obufV (Memref.isWhole_whole _) shV (Memref.isWhole_whole _) cc0_scratch5 cc0_scratch6 cc0_scratch7 cc0_scoped0 cc0_scoped1 v2878 v2883 c5_i32_1722 c3_i32_1723
     let ⟨v2950, v2955, v2958⟩ : Σ' (v2950 : FVec F S16 .f32) (v2955 : FVec F S16 .f32), Vec F S1x1x16 .f32 ← k0_part76 (F := F) L xV (Memref.isWhole_whole _) oV (Memref.isWhole_whole _) bufV (Memref.isWhole_whole _) partV (Memref.isWhole_whole _) combV (Memref.isWhole_whole _)
            obufV (Memref.isWhole_whole _) shV (Memref.isWhole_whole _) cc0_scratch5 cc0_scratch6 cc0_scratch7 cc0_scoped0 cc0_scoped1 v2916 v2920 c1_i32_1744 c3_i32_1745
     k0_part77 (F := F) L xV (Memref.isWhole_whole _) oV (Memref.isWhole_whole _) bufV (Memref.isWhole_whole _) partV (Memref.isWhole_whole _) combV (Memref.isWhole_whole _)
            obufV (Memref.isWhole_whole _) shV (Memref.isWhole_whole _) cc0_scratch5 cc0_scratch6 cc0_scratch7 cc0_scoped0 cc0_scoped1 v2950 v2955 v2958
     let ⟨v3027, v3032, c4_i32_1811, c3_i32_1812⟩ : Σ' (v3027 : FVec F S16 .f32) (v3032 : FVec F S16 .f32) (c4_i32_1811 : BitVec 32), BitVec 32 ← k0_part78 (F := F) L xV (Memref.isWhole_whole _) oV (Memref.isWhole_whole _) bufV (Memref.isWhole_whole _) partV (Memref.isWhole_whole _) combV (Memref.isWhole_whole _)
            obufV (Memref.isWhole_whole _) shV (Memref.isWhole_whole _) cc0_scratch5 cc0_scratch6 cc0_scratch7 cc0_scoped0 cc0_scoped1
     let ⟨v3062, v3067, v3070⟩ : Σ' (v3062 : FVec F S16 .f32) (v3067 : FVec F S16 .f32), Vec F S1x1x16 .f32 ← k0_part79 (F := F) L xV (Memref.isWhole_whole _) oV (Memref.isWhole_whole _) bufV (Memref.isWhole_whole _) partV (Memref.isWhole_whole _) combV (Memref.isWhole_whole _)
            obufV (Memref.isWhole_whole _) shV (Memref.isWhole_whole _) cc0_scratch5 cc0_scratch6 cc0_scratch7 cc0_scoped0 cc0_scoped1 v3027 v3032 c4_i32_1811 c3_i32_1812
     let v3074 : Vec F S16 .f32 ← Prog.lift (.load obufV (Rect.unit (s := S128) ![112] S16.size inb_S128_S16_112).toLoadRect (View.loadsAt_vmem h_S16))
     Prog.lift (.store obufV (Rect.unit (s := S128) ![112] S16.size inb_S128_S16_112) (k0_pay1 v3062 v3067 v3070) Finset.univ (View.stores_vmem_bits_univ h_S16 rfl) (.inl rfl))
     let v3080 : Memref sig .scVector .hbm S128 .f32 := oV.slice (Rect.unit (s := S2048) (k0_off36 L 1536#32) S128.size (k0_off36_inb L h 3)) (fun _ => rfl)
     Prog.lift (.enqueueDma obufV (.here v3080) (.dma cc0_scratch7.sem) (Memref.isWhole_whole cc0_scratch3).wordExact (View.wordExact_bits rfl) ⟨Or.inl rfl, trivial⟩)
     let v3082 : Memref sig .scVector .hbm S128 .f32 := oV.slice (Rect.unit (s := S2048) (k0_off36 L 1536#32) S128.size (k0_off36_inb L h 3)) (fun _ => rfl)
     Prog.lift (.waitDma2 cc0_scratch7.sem obufV v3082 (Memref.isWhole_whole cc0_scratch3).wordExact (View.wordExact_bits rfl))
     pure ⟨⟩
    : TProg (F := F) L PUnit) = (do
     group L 3 2
     group L 3 3
     group L 3 4
     group L 3 5
     group L 3 6
     group L 3 7
     emit L h 3) := by
  simp only [k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton]
  rfl

/-- What a combining tile runs after the barrier. -/
theorem combine_eq (L : grid0.Coords) (h : k0_cond1 L = 1#1) (v18 : BitVec 32) : (do
    let ⟨v2652, v2657, v2660⟩ : Σ' (v2652 : FVec F S16 .f32) (v2657 : FVec F S16 .f32), Vec F S1x1x16 .f32 ← k0_part80 (F := F) L xV (Memref.isWhole_whole _) oV (Memref.isWhole_whole _) bufV (Memref.isWhole_whole _) partV (Memref.isWhole_whole _) combV (Memref.isWhole_whole _)
            obufV (Memref.isWhole_whole _) shV (Memref.isWhole_whole _) cc0_scratch5 cc0_scratch6 cc0_scratch7 cc0_scoped0 cc0_scoped1 v18 h
    let ⟨v2689, v2694, v2697⟩ : Σ' (v2689 : FVec F S16 .f32) (v2694 : FVec F S16 .f32), Vec F S1x1x16 .f32 ← k0_part69 (F := F) L xV (Memref.isWhole_whole _) oV (Memref.isWhole_whole _) bufV (Memref.isWhole_whole _) partV (Memref.isWhole_whole _) combV (Memref.isWhole_whole _)
            obufV (Memref.isWhole_whole _) shV (Memref.isWhole_whole _) cc0_scratch5 cc0_scratch6 cc0_scratch7 cc0_scoped0 cc0_scoped1 v2652 v2657 v2660
    let ⟨v2729, v2734, c7_i32_1633, c3_i32_1634⟩ : Σ' (v2729 : FVec F S16 .f32) (v2734 : FVec F S16 .f32) (c7_i32_1633 : BitVec 32), BitVec 32 ← k0_part70 (F := F) L xV (Memref.isWhole_whole _) oV (Memref.isWhole_whole _) bufV (Memref.isWhole_whole _) partV (Memref.isWhole_whole _) combV (Memref.isWhole_whole _)
            obufV (Memref.isWhole_whole _) shV (Memref.isWhole_whole _) cc0_scratch5 cc0_scratch6 cc0_scratch7 cc0_scoped0 cc0_scoped1 v2689 v2694 v2697
    let ⟨v2766, v2771, c2_i32_1655, c3_i32_1656⟩ : Σ' (v2766 : FVec F S16 .f32) (v2771 : FVec F S16 .f32) (c2_i32_1655 : BitVec 32), BitVec 32 ← k0_part71 (F := F) L xV (Memref.isWhole_whole _) oV (Memref.isWhole_whole _) bufV (Memref.isWhole_whole _) partV (Memref.isWhole_whole _) combV (Memref.isWhole_whole _)
            obufV (Memref.isWhole_whole _) shV (Memref.isWhole_whole _) cc0_scratch5 cc0_scratch6 cc0_scratch7 cc0_scoped0 cc0_scoped1 v2729 v2734 c7_i32_1633 c3_i32_1634
    let ⟨v2801, v2806, v2809⟩ : Σ' (v2801 : FVec F S16 .f32) (v2806 : FVec F S16 .f32), Vec F S1x1x16 .f32 ← k0_part72 (F := F) L xV (Memref.isWhole_whole _) oV (Memref.isWhole_whole _) bufV (Memref.isWhole_whole _) partV (Memref.isWhole_whole _) combV (Memref.isWhole_whole _)
            obufV (Memref.isWhole_whole _) shV (Memref.isWhole_whole _) cc0_scratch5 cc0_scratch6 cc0_scratch7 cc0_scoped0 cc0_scoped1 v2766 v2771 c2_i32_1655 c3_i32_1656
    let ⟨v2838, v2843, v2846⟩ : Σ' (v2838 : FVec F S16 .f32) (v2843 : FVec F S16 .f32), Vec F S1x1x16 .f32 ← k0_part73 (F := F) L xV (Memref.isWhole_whole _) oV (Memref.isWhole_whole _) bufV (Memref.isWhole_whole _) partV (Memref.isWhole_whole _) combV (Memref.isWhole_whole _)
            obufV (Memref.isWhole_whole _) shV (Memref.isWhole_whole _) cc0_scratch5 cc0_scratch6 cc0_scratch7 cc0_scoped0 cc0_scoped1 v2801 v2806 v2809
    let ⟨v2878, v2883, c5_i32_1722, c3_i32_1723⟩ : Σ' (v2878 : FVec F S16 .f32) (v2883 : FVec F S16 .f32) (c5_i32_1722 : BitVec 32), BitVec 32 ← k0_part74 (F := F) L xV (Memref.isWhole_whole _) oV (Memref.isWhole_whole _) bufV (Memref.isWhole_whole _) partV (Memref.isWhole_whole _) combV (Memref.isWhole_whole _)
            obufV (Memref.isWhole_whole _) shV (Memref.isWhole_whole _) cc0_scratch5 cc0_scratch6 cc0_scratch7 cc0_scoped0 cc0_scoped1 v2838 v2843 v2846
    let ⟨v2916, v2920, c1_i32_1744, c3_i32_1745⟩ : Σ' (v2916 : FVec F S16 .f32) (v2920 : FVec F S16 .f32) (c1_i32_1744 : BitVec 32), BitVec 32 ← k0_part75 (F := F) L xV (Memref.isWhole_whole _) oV (Memref.isWhole_whole _) bufV (Memref.isWhole_whole _) partV (Memref.isWhole_whole _) combV (Memref.isWhole_whole _)
            obufV (Memref.isWhole_whole _) shV (Memref.isWhole_whole _) cc0_scratch5 cc0_scratch6 cc0_scratch7 cc0_scoped0 cc0_scoped1 v2878 v2883 c5_i32_1722 c3_i32_1723
    let ⟨v2950, v2955, v2958⟩ : Σ' (v2950 : FVec F S16 .f32) (v2955 : FVec F S16 .f32), Vec F S1x1x16 .f32 ← k0_part76 (F := F) L xV (Memref.isWhole_whole _) oV (Memref.isWhole_whole _) bufV (Memref.isWhole_whole _) partV (Memref.isWhole_whole _) combV (Memref.isWhole_whole _)
            obufV (Memref.isWhole_whole _) shV (Memref.isWhole_whole _) cc0_scratch5 cc0_scratch6 cc0_scratch7 cc0_scoped0 cc0_scoped1 v2916 v2920 c1_i32_1744 c3_i32_1745
    k0_part77 (F := F) L xV (Memref.isWhole_whole _) oV (Memref.isWhole_whole _) bufV (Memref.isWhole_whole _) partV (Memref.isWhole_whole _) combV (Memref.isWhole_whole _)
            obufV (Memref.isWhole_whole _) shV (Memref.isWhole_whole _) cc0_scratch5 cc0_scratch6 cc0_scratch7 cc0_scoped0 cc0_scoped1 v2950 v2955 v2958
    let ⟨v3027, v3032, c4_i32_1811, c3_i32_1812⟩ : Σ' (v3027 : FVec F S16 .f32) (v3032 : FVec F S16 .f32) (c4_i32_1811 : BitVec 32), BitVec 32 ← k0_part78 (F := F) L xV (Memref.isWhole_whole _) oV (Memref.isWhole_whole _) bufV (Memref.isWhole_whole _) partV (Memref.isWhole_whole _) combV (Memref.isWhole_whole _)
            obufV (Memref.isWhole_whole _) shV (Memref.isWhole_whole _) cc0_scratch5 cc0_scratch6 cc0_scratch7 cc0_scoped0 cc0_scoped1
    let ⟨v3062, v3067, v3070⟩ : Σ' (v3062 : FVec F S16 .f32) (v3067 : FVec F S16 .f32), Vec F S1x1x16 .f32 ← k0_part79 (F := F) L xV (Memref.isWhole_whole _) oV (Memref.isWhole_whole _) bufV (Memref.isWhole_whole _) partV (Memref.isWhole_whole _) combV (Memref.isWhole_whole _)
            obufV (Memref.isWhole_whole _) shV (Memref.isWhole_whole _) cc0_scratch5 cc0_scratch6 cc0_scratch7 cc0_scoped0 cc0_scoped1 v3027 v3032 c4_i32_1811 c3_i32_1812
    let v3074 : Vec F S16 .f32 ← Prog.lift (.load obufV (Rect.unit (s := S128) ![112] S16.size inb_S128_S16_112).toLoadRect (View.loadsAt_vmem h_S16))
    Prog.lift (.store obufV (Rect.unit (s := S128) ![112] S16.size inb_S128_S16_112) (k0_pay1 v3062 v3067 v3070) Finset.univ (View.stores_vmem_bits_univ h_S16 rfl) (.inl rfl))
    let v3080 : Memref sig .scVector .hbm S128 .f32 := oV.slice (Rect.unit (s := S2048) (k0_off36 L 1536#32) S128.size (k0_off36_inb L h 3)) (fun _ => rfl)
    Prog.lift (.enqueueDma obufV (.here v3080) (.dma cc0_scratch7.sem) (Memref.isWhole_whole cc0_scratch3).wordExact (View.wordExact_bits rfl) ⟨Or.inl rfl, trivial⟩)
    let v3082 : Memref sig .scVector .hbm S128 .f32 := oV.slice (Rect.unit (s := S2048) (k0_off36 L 1536#32) S128.size (k0_off36_inb L h 3)) (fun _ => rfl)
    Prog.lift (.waitDma2 cc0_scratch7.sem obufV v3082 (Memref.isWhole_whole cc0_scratch3).wordExact (View.wordExact_bits rfl))
    pure ⟨⟩
    : TProg (F := F) L PUnit) = combine L h := by
  rw [part80_eq]
  simp only [combine, outBatch, Prog.bind_assoc]
  iterate 30 refine bindR fun _ => ?_
  exact tail_eq L h

/-- The scalars computed first are values only. -/
theorem part81_eq (L : grid0.Coords) : ∃ v18 v28 v31, k0_part81 (F := F) L xV (Memref.isWhole_whole _) oV (Memref.isWhole_whole _) bufV (Memref.isWhole_whole _) partV (Memref.isWhole_whole _) combV (Memref.isWhole_whole _)
            obufV (Memref.isWhole_whole _) shV (Memref.isWhole_whole _) cc0_scratch5 cc0_scratch6 cc0_scratch7 cc0_scoped0 cc0_scoped1 = pure ⟨v18, v28, v31⟩ := by
  rw [k0_part81_eq_skeleton]
  exact ⟨_, _, _, rfl⟩

/-- The two first copies' starts. -/
theorem seg0 (L : grid0.Coords) (v31 : BitVec 32) (K : _ → TProg (F := F) L PUnit) : (do
    let z ← k0_part82 (F := F) L xV (Memref.isWhole_whole _) oV (Memref.isWhole_whole _) bufV (Memref.isWhole_whole _) partV (Memref.isWhole_whole _) combV (Memref.isWhole_whole _)
            obufV (Memref.isWhole_whole _) shV (Memref.isWhole_whole _) cc0_scratch5 cc0_scratch6 cc0_scratch7 cc0_scoped0 cc0_scoped1 v31
    K z) = (do
    fetch L 0 0 cc0_scratch5
    fetch L 1 1 cc0_scratch6
    K ⟨zero16, zero16, zero16, zero16, zero16, zero16, zero16, zero16, zero16, zero16, zero16, zero16, zero16, zero16, zero16, zero16⟩) := by
  rw [k0_part82_eq_skeleton]
  rfl

/-- A vector subcore's program, written out flat, is the short program. -/
theorem tile_eq (L : grid0.Coords) : tile (F := F) L = (do
    fetch L 0 0 cc0_scratch5
    fetch L 1 1 cc0_scratch6
    await L 0 0 cc0_scratch5
    let a ← Scf.Loop.for k0_t1_loop k0_t1_ok (tup (fun _ => zero16) (fun _ => zero16)) (trip L 0)
    putAll L 0 a
    fetch L 2 0 cc0_scratch5
    await L 1 1 cc0_scratch6
    let a ← Scf.Loop.for k0_t1_loop k0_t1_ok (tup (fun _ => zero16) (fun _ => zero16)) (trip L 1)
    putAll L 1 a
    fetch L 3 1 cc0_scratch6
    await L 2 0 cc0_scratch5
    let a ← Scf.Loop.for k0_t1_loop k0_t1_ok (tup (fun _ => zero16) (fun _ => zero16)) (trip L 0)
    putAll L 2 a
    await L 3 1 cc0_scratch6
    let a ← Scf.Loop.for k0_t1_loop k0_t1_ok (tup (fun _ => zero16) (fun _ => zero16)) (trip L 1)
    putAll L 3 a
    publish L
    SparseCore.subcoreBarrier sc_bar0 (grid0.bound 1) hsub0
    if h : k0_cond1 L = 1#1 then combine L h else pure ⟨⟩
    pure ⟨⟩) := by
  unfold tile sums batch
  simp only [Prog.bind_assoc]

/-- The printed kernel is the short program. -/
theorem text_eq (L : grid0.Coords) :
    cc0__sc_pool (F := F) L xV (Memref.isWhole_whole _) oV (Memref.isWhole_whole _) bufV (Memref.isWhole_whole _) partV (Memref.isWhole_whole _) combV (Memref.isWhole_whole _)
            obufV (Memref.isWhole_whole _) shV (Memref.isWhole_whole _) cc0_scratch5 cc0_scratch6 cc0_scratch7 cc0_scoped0 cc0_scoped1 = tile L := by
  rw [tile_eq, cc0__sc_pool_eq_skeleton]
  unfold cc0__sc_pool_skel
  obtain ⟨_, _, _, e⟩ := part81_eq (F := F) L
  rw [e]
  refine pureR ?_
  refine (seg0 L _ _).trans ?_
  refine bindR fun _ => bindR fun _ => ?_
  refine (seg1 L _ _ _ _ _ _ _ _ _ _ _ _ _ _ _ _ _ _).trans (bindR fun _ => bindR fun _ => bindR fun _ => bindR fun _ => ?_)
  refine (seg2 L _ _ _ _ _ _ _ _ _ _ _ _ _ _ _ _ _ _).trans (bindR fun _ => bindR fun _ => bindR fun _ => bindR fun _ => ?_)
  refine (seg3 L _ _ _ _ _ _ _ _ _ _ _ _ _ _ _ _ _).trans (bindR fun _ => bindR fun _ => bindR fun _ => bindR fun _ => bindR fun _ => bindR fun _ => ?_)
  refine bindR fun _ => bindR fun _ => bindR fun _ => ?_
  by_cases h : k0_cond1 L = 1#1
  · rw [dif_pos h, dif_pos h]
    exact ((combine_eq L h _).trans (bind_unit _).symm)
  · rw [dif_neg h, dif_neg h]

end Cert.Proof.Pool

end
-- ==== Proof.Tile.lean ====
/-
  One task's whole body, at a symbolic SparseCore and tile: the partial sums, the subcore barrier over which each task hands
  its row to the combining task of its group, the combining tasks' results; and the launch theorem's obligation for it.
-/
module

public import proofs.«01_k».proof.Proof.TileCombine
public import proofs.«01_k».proof.Proof.TextEq

@[expose] public section

noncomputable section

namespace Cert.Proof.Pool

open Cert.KernelIdeal Cert.KernelIdeal.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

variable (m : (ℓ : Loc nD τ sig) → Buf (Elt F) ℓ) (X : Dev nD → XBuf F)

section Tile

variable (d : Dev nD) (L : grid0.Coords)

/-! ## The task's own semaphores and buffers -/

/-- One of the task's copy semaphores' cells. -/
abbrev cell (sm : DmaSems sig S_) : GSem nD τ sig := (thr d L, .dma sm.sem)

theorem cell_ne {a b : DmaSems sig S_} (hab : a.sem ≠ b.sem) : cell d L a ≠ cell d L b := fun e =>
  hab (SemLoc.dma.inj (congrArg Prod.snd e))

/-- Its five copy semaphores are among its own; the rest of them. -/
abbrev restCells : Finset (GSem nD τ sig) :=
  (((((ownCells (thr d L)).erase (cell d L cc0_scratch5)).erase (cell d L cc0_scratch6)).erase (cell d L cc0_scratch7)).erase (cell d L cc0_scoped0)).erase (cell d L cc0_scoped1)

theorem own_cell (sm : DmaSems sig S_) (hs : (SemLoc.dma sm.sem : SemLoc sig).isScoped .scVector = true) : cell d L sm ∈ ownCells (thr d L) :=
  mem_ownCells.mpr ⟨rfl, hs⟩

theorem ownSems0_tile : (ownSems0 (thr d L) : sProp 𝕄)
    = iprop(semP d L cc0_scratch5 ∗ semP d L cc0_scratch6 ∗ semP d L cc0_scratch7 ∗ semP d L cc0_scoped0 ∗ semP d L cc0_scoped1
        ∗ bigSep (restCells d L) fun g => semVal g 0) := by
  unfold SparseCore.Cfg.ownSems0
  rw [SparseCore.bigSep_erase' (own_cell d L cc0_scratch5 (by decide)),
    SparseCore.bigSep_erase' (i := cell d L cc0_scratch6) (by
      simp only [Finset.mem_erase]; exact ⟨cell_ne d L (by decide), own_cell d L _ (by decide)⟩),
    SparseCore.bigSep_erase' (i := cell d L cc0_scratch7) (by
      simp only [Finset.mem_erase]; exact ⟨cell_ne d L (by decide), cell_ne d L (by decide), own_cell d L _ (by decide)⟩),
    SparseCore.bigSep_erase' (i := cell d L cc0_scoped0) (by
      simp only [Finset.mem_erase]; exact ⟨cell_ne d L (by decide), cell_ne d L (by decide), cell_ne d L (by decide), own_cell d L _ (by decide)⟩),
    SparseCore.bigSep_erase' (i := cell d L cc0_scoped1) (by
      simp only [Finset.mem_erase]; exact ⟨cell_ne d L (by decide), cell_ne d L (by decide), cell_ne d L (by decide), cell_ne d L (by decide), own_cell d L _ (by decide)⟩)]

/-- One of its buffers. -/
abbrev ref (b : Ref sig .scVector) : DevRef τ sig := (Proc.scVector (cV L) (jV L)).devRef b

theorem ref_ne {a b : Ref sig .scVector} (h : a.idx.val ≠ b.idx.val) : ref L a ≠ ref L b := fun e => h (congrArg (fun x : DevRef τ sig => x.idx.val) e)

abbrev restRefs : Finset (DevRef τ sig) :=
  ((((ownRefs (τ := τ) (.scVector (cV L) (jV L))).erase (ref L cc0_scratch0)).erase (ref L cc0_scratch1)).erase (ref L cc0_scratch2)).erase (ref L cc0_scratch3)

/-- Its four buffers are among its own, each at some contents. -/
theorem ownBufs_tile : (ownBufs (thr d L) : sProp 𝕄)
    = iprop((∃ f, bufL d L ↦{fullShare} f) ∗ (∃ f, partL d L ↦{fullShare} f) ∗ (∃ f, combL d L ↦{fullShare} f) ∗ (∃ f, obufL d L ↦{fullShare} f)
        ∗ bigSep (restRefs L) fun b => iprop(∃ f, ((d, b) : Loc nD τ sig) ↦{fullShare} f)) := by
  unfold SparseCore.Cfg.ownBufs
  have own : ∀ b : Ref sig .scVector, (ref L b).owner = .proc (.scVector (cV L) (jV L)) → ref L b ∈ ownRefs (τ := τ) (.scVector (cV L) (jV L)) :=
    fun b hb => SparseCore.Cfg.mem_ownRefs_of_owner hb
  refine (SparseCore.bigSep_erase' (own cc0_scratch0 rfl)).trans (congrArg (fun P : sProp 𝕄 => iprop((∃ f, bufL d L ↦{fullShare} f) ∗ P)) ?_)
  refine (SparseCore.bigSep_erase' (i := ref L cc0_scratch1) (by
    simp only [Finset.mem_erase]; exact ⟨ref_ne L (by decide), own _ rfl⟩)).trans (congrArg (fun P : sProp 𝕄 => iprop((∃ f, partL d L ↦{fullShare} f) ∗ P)) ?_)
  refine (SparseCore.bigSep_erase' (i := ref L cc0_scratch2) (by
    simp only [Finset.mem_erase]; exact ⟨ref_ne L (by decide), ref_ne L (by decide), own _ rfl⟩)).trans (congrArg (fun P : sProp 𝕄 => iprop((∃ f, combL d L ↦{fullShare} f) ∗ P)) ?_)
  exact SparseCore.bigSep_erase' (i := ref L cc0_scratch3) (by
    simp only [Finset.mem_erase]; exact ⟨ref_ne L (by decide), ref_ne L (by decide), ref_ne L (by decide), own _ rfl⟩)

/-- The double buffer is its two slots. -/
theorem buf_slots (f : Buf (Elt F) (bufL d L)) : (bufL d L ↦{fullShare} f : sProp 𝕄) = iprop(slotP d L 0 f ∗ slotP d L 1 f) := by
  have hcov : (Finset.univ : Finset (Fin 2)).biUnion slotS = Finset.univ := by
    ext y; simp only [Finset.mem_biUnion, Finset.mem_univ, true_and, iff_true]
    exact ⟨y 0, Finset.mem_filter.mpr ⟨Finset.mem_univ _, rfl⟩⟩
  have hdis : ∀ i ∈ (Finset.univ : Finset (Fin 2)), ∀ j ∈ (Finset.univ : Finset (Fin 2)), i ≠ j → Disjoint (slotS i) (slotS j) := fun i _ j _ hij =>
    Finset.disjoint_left.mpr fun y hi hj => hij (Fin.ext ((Finset.mem_filter.mp hi).2.symm.trans (Finset.mem_filter.mp hj).2))
  refine Eq.trans ?_ (BI.bigSep_fin_two (fun k : Fin 2 => slotP d L k f))
  exact (congrArg (fun I => (bufL d L ↦[I]{fullShare} f : sProp 𝕄)) hcov.symm).trans
    (pointsTo_biUnion (ℓ := bufL d L) (q := fullShare) (f := f) Finset.univ slotS hdis)

theorem slots_buf : iprop((∃ f, slotP d L 0 f) ∗ ∃ f, slotP d L 1 f) ⊢ (iprop(∃ f, bufL d L ↦{fullShare} f) : sProp 𝕄) := by
  iintro ⟨⟨%f, H0⟩, ⟨%g, H1⟩⟩
  iexists fun y => if (y 0).val = 0 then f y else g y
  iapply (Entails.of_eq (buf_slots d L _).symm)
  isplitl [H0]
  · iapply (Entails.of_eq (pointsTo_congr (ℓ := bufL d L) (I := slotS 0) (q := fullShare) (f := f) (g := fun y => if (y 0).val = 0 then f y else g y)
      fun y hy => (if_pos (Finset.mem_filter.mp hy).2).symm)); iexact H0
  · iapply (Entails.of_eq (pointsTo_congr (ℓ := bufL d L) (I := slotS 1) (q := fullShare) (f := g) (g := fun y => if (y 0).val = 0 then f y else g y)
      fun y hy => (if_neg (fun e => by have := (Finset.mem_filter.mp hy).2; rw [e] at this; exact absurd this (by decide))).symm)); iexact H1

/-! ## The barrier: a row handed over, a group's rows received -/

theorem bigSep_nothing {I : Type} (s : Finset I) : (bigSep s fun _ => iprop(emp)) = (iprop(emp) : sProp 𝕄) := BI.bigSep_emp_const s

/-- A task's row is what its duties hand over: the round of the combining task of its group its row, the others nothing. -/
theorem pays_intro : shRowPts d (cV L) (L 1).val (shVal (X d) (L 0))
    ⊢ (bigSep Finset.univ fun j : Fin (grid0.bound 1) => (bRd X).payload (bcell d (cV L) (j.castLE hsub0)) 0 (jV L).val : sProp 𝕄) := by
  have h1 : (L 1).val < 16 := (L 1).isLt
  let j₀ : Fin (grid0.bound 1) := ⟨8 * ((L 1).val / 8), show 8 * ((L 1).val / 8) < 16 by omega⟩
  rw [SparseCore.bigSep_erase' (Finset.mem_univ j₀),
    show (bigSep (Finset.univ.erase j₀) fun j : Fin (grid0.bound 1) => (bRd X).payload (bcell d (cV L) (j.castLE hsub0)) 0 (jV L).val)
      = bigSep (Finset.univ.erase j₀) fun _ => (iprop(emp) : sProp 𝕄) from
      bigSep_congr fun j hj => if_neg fun e => (Finset.mem_erase.mp hj).1 (Fin.ext e.symm), bigSep_nothing]
  iintro H
  isplitl [H]
  · show _ ⊢ bPay X (bcell d (cV L) (j₀.castLE hsub0)) (jV L).val
    unfold bPay; dsimp only
    rw [if_pos (show 8 * ((jV L).val / 8) = (j₀.castLE hsub0).val from rfl)]
    exact BI.Entails.refl _
  · iempintro

/-- Row `n` if tile `i` reads it, else nothing. -/
def shK (i n : ℕ) : Finset S16x4x256.Idx := if 8 * (n / 8) = i then shR n else ∅

theorem shG_rows (i : ℕ) : (Finset.univ : Finset (Fin 16)).biUnion (fun n => shK i n.val) = shG i := by
  ext y
  simp only [Finset.mem_biUnion, Finset.mem_univ, true_and, shK, shG, Finset.mem_filter]
  constructor
  · rintro ⟨n, hn⟩
    split at hn
    · next e => rw [(Finset.mem_filter.mp hn).2]; exact e
    · exact absurd hn (Finset.notMem_empty _)
  · intro e
    exact ⟨y 0, by rw [if_pos e]; exact Finset.mem_filter.mpr ⟨Finset.mem_univ _, rfl⟩⟩

theorem shK_disjoint (i : ℕ) : ∀ a ∈ (Finset.univ : Finset (Fin 16)), ∀ b ∈ (Finset.univ : Finset (Fin 16)), a ≠ b → Disjoint (shK i a.val) (shK i b.val) := by
  intro a _ b _ hab
  have hs : ∀ n, shK i n ⊆ shR n := fun n => by unfold shK; split; exacts [Finset.Subset.refl _, Finset.empty_subset _]
  exact Finset.disjoint_left.mpr fun y ha hb => hab (Fin.ext
    (((Finset.mem_filter.mp (hs _ ha)).2).symm.trans (Finset.mem_filter.mp (hs _ hb)).2))

/-- A tile's own round collects the rows it reads. -/
theorem pays_elim : (bigSep ((bRd X).duties (bcell d (cV L) (jV L)) 0 \ ∅) fun n => (bRd X).payload (bcell d (cV L) (jV L)) 0 n)
    = (grpP d L (shVal (X d) (L 0)) : sProp 𝕄) := by
  rw [Finset.sdiff_empty, bRd_duties₀, SparseCore.bigSep_image_of_injOn (Fin.val_injective.injOn)]
  show _ = (shLoc d (cV L) ↦[shG (L 1).val]{fullShare} shVal (X d) (L 0) : sProp 𝕄)
  rw [← shG_rows (L 1).val]
  refine Eq.trans ?_ (pointsTo_biUnion (ℓ := shLoc d (cV L)) (q := fullShare) (f := shVal (X d) (L 0)) Finset.univ (fun n : Fin 16 => shK (L 1).val n.val) (shK_disjoint (L 1).val)).symm
  refine bigSep_congr fun n _ => ?_
  show bPay X (bcell d (cV L) (jV L)) n.val = _
  unfold bPay shK; dsimp only
  by_cases e : 8 * (n.val / 8) = (L 1).val
  · rw [if_pos (show 8 * (n.val / 8) = (jV L).val from e), if_pos e]; rfl
  · rw [if_neg (show ¬ 8 * (n.val / 8) = (jV L).val from e), if_neg e]; exact pointsTo_empty.symm

/-! ## The body -/

/-- The two halves of a tile's read share. -/
abbrev qH (q : PosShare TreeShare) (k : Fin 2) : PosShare TreeShare := Transfers.dealOf q Finset.univ k

theorem x_halves (q : PosShare TreeShare) : (xLoc d ↦{q} X d : sProp 𝕄) = iprop((xLoc d ↦{qH q 0} X d) ∗ xLoc d ↦{qH q 1} X d) :=
  (Transfers.pointsTo_deal (Finset.univ : Finset (Fin 2)) Finset.univ_nonempty q).trans (BI.bigSep_fin_two _)

theorem run_rest (O : CellTallies nD τ sig (HIx 1)) (W : Waits sig (HIx 1)) (Q : PUnit → sProp 𝕄) :
    iprop(mayP d L O ∗ owesX d L O W ∗ grpP d L (shVal (X d) (L 0)) ∗ (∃ f, combP d L f) ∗ (∃ f, obufP d L f) ∗ (∃ f, outP d L f)
        ∗ semP d L cc0_scoped1 ∗ semP d L cc0_scratch7)
      ⊢ iprop((iprop(owesX d L O W ∗ grpP d L (shVal (X d) (L 0)) ∗ (∃ f, combP d L f) ∗ (∃ f, obufP d L f) ∗ outP d L (outVal (X d))
          ∗ semP d L cc0_scoped1 ∗ semP d L cc0_scratch7) -∗ Q ⟨⟩) -∗ Run d L (if h : k0_cond1 L = 1#1 then (do combine L h; pure ⟨⟩) else pure ⟨⟩) Q) := by
  split
  · next h =>
    simp only [wp_bind]
    iintro H HQ
    iapply (run_combine X d L h O W) $$ H
    iintro H
    iapply (le_wp_ret)
    iapply HQ; iexact H
  · next h =>
    have hno : ∀ p : S2048.Idx, p ∉ oT (L 0).val (L 1).val := fun p hp => by
      obtain ⟨-, hi⟩ := (Finset.mem_filter.mp hp).2
      exact h ((cond_iff L).mpr (by omega))
    iintro ⟨-, HO, Hs, Hc, Hp, ⟨%f, Ho⟩, Hv1, Hv7⟩ HQ
    iapply (le_wp_ret)
    iapply HQ
    isplitl [HO]; · iexact HO
    isplitl [Hs]; · iexact Hs
    isplitl [Hc]; · iexact Hc
    isplitl [Hp]; · iexact Hp
    isplitl [Ho]
    · iapply (Entails.of_eq (pointsTo_congr (ℓ := oLoc d) (I := oT (L 0).val (L 1).val) (q := fullShare) (f := f) (g := outVal (X d)) fun p hp => absurd hp (hno p))); iexact Ho
    isplitl [Hv1] <;> iassumption

set_option maxHeartbeats 4000000 in
/-- The task of tile `(L 0, L 1)` of device `d`, from what its SparseCore hands it to what it hands back. -/
theorem tile_body (hF : (K (F := F)).Facts) (O : CellTallies nD τ sig (HIx 1)) (W : Waits sig (HIx 1)) (hO : ∀ g, O g none = 0)
    (hOlev : ∀ g ι, 0 < O g ι → 8 * (0 : Fin 1).val + 6 ≤ (K (F := F)).lev g ι) :
    iprop(levAts (K (F := F)).L (K (F := F)).lev ∗ bkit X d (cV L) (jV L) ∗ tileIn m X d (L 0) (L 1)
        ∗ scopedBufs (thr d L) ∗ scopedSems0 (thr d L) ∗ owes (thr d L) (O + oxV d (cV L)) W)
      ⊢ wp frame (wpE (defs₀ (F := F)) 𝒱₀ (thr d L) none) Set.univ
          (cc0__sc_pool (F := F) L xV (Memref.isWhole_whole _) oV (Memref.isWhole_whole _) bufV (Memref.isWhole_whole _) partV (Memref.isWhole_whole _) combV (Memref.isWhole_whole _)
            obufV (Memref.isWhole_whole _) shV (Memref.isWhole_whole _) cc0_scratch5 cc0_scratch6 cc0_scratch7 cc0_scoped0 cc0_scoped1)
          fun _ => iprop((tileOut X d (L 0) (L 1) ∗ semVal (bcell d (cV L) (jV L)) 0)
            ∗ scopedBufs (thr d L) ∗ scopedSems0 (thr d L)
            ∗ ∃ W', ⌜∀ p ∈ W', p ∈ W ∨ p.2 = none ∨ p.2 = some (0 : Fin 1)⌝ ∗ owes (thr d L) O W') := by
  rw [text_eq]
  unfold tile
  simp only [wp_bind]
  rw [(K (F := F)).scopedBufs_V hF d (cV L) (jV L), SparseCore.Cfg.scopedSems0_V (Val := Elt F) d (cV L) (jV L), ownSems0_tile, ownBufs_tile]
  unfold bkit
  iintro ⟨#Hlv, ⟨⟨%κ, #Hinv⟩, Htoks, #Hrch, Hat, Hcred⟩, ⟨Hx, Ho, Hsh⟩, ⟨⟨%fb, Hbuf⟩, ⟨%fp, Hpart⟩, Hcomb, Hobuf, Hbufs⟩, ⟨Hv5, Hv6, Hv7, Hr0, Hr1, Hsems⟩, HO⟩
  -- the waits' evidence, under either debt
  have hO' : ∀ g, (O + oxV d (cV L)) g none = 0 := fun g => by rw [Pi.add_apply, Finsupp.add_apply, hO g, oxV_none]
  ihave #Hmw1 := (show levAts (K (F := F)).L (K (F := F)).lev ⊢ mayP (F := F) d L (O + oxV d (cV L)) from
    (K (F := F)).mayWaits_none (thr := thr d L) hO') $$ Hlv
  ihave #Hmw2 := (show levAts (K (F := F)).L (K (F := F)).lev ⊢ mayP (F := F) d L O from
    (K (F := F)).mayWaits_none (thr := thr d L) hO) $$ Hlv
  ihave Hx := (Entails.of_eq (x_halves X d _)) $$ Hx
  icases Hx with ⟨Hx0, Hx1⟩
  ihave Hbuf := (Entails.of_eq (buf_slots d L fb)) $$ Hbuf
  icases Hbuf with ⟨Hs0, Hs1⟩
  -- the partial sums
  iapply (run_sums X d L _ _ (O + oxV d (cV L)) W) $$ [Hx0 Hx1 Hs0 Hs1 Hv5 Hv6 HO Hpart]
  · isplitr; · iexact Hmw1
    isplitr [Hpart]; swap
    · iexists fp; isplitr; swap; · iexact Hpart
      ipureintro; intro y hy; exact absurd hy (Nat.not_lt_zero _)
    isplitl [Hx0]; · iexact Hx0
    isplitl [Hx1]; · iexact Hx1
    isplitl [Hs0]; · iexists _; iexact Hs0
    isplitl [Hs1]; · iexists _; iexact Hs1
    isplitl [Hv5]; · iexact Hv5
    isplitl [Hv6]; · iexact Hv6
    iexists W
    isplitr; swap; · iexact HO
    ipureintro; intro p hp; exact .inl hp
  iintro ⟨⟨Hx0, Hx1, Hs0, Hs1, Hv5, Hv6, HO⟩, Hpart⟩
  -- their copy to the shared memory
  iapply (run_publish X d L (O + oxV d (cV L)) W) $$ [HO Hpart Hsh Hr0]
  · isplitr; · iexact Hmw1
    isplitl [HO]; · iexact HO
    isplitl [Hpart]; · iexact Hpart
    isplitl [Hsh]; · iexact Hsh
    iexact Hr0
  iintro ⟨⟨%W₁, %hW₁, HO⟩, Hpart, Hsh, Hr0⟩
  -- the barrier
  ihave Hpays := (pays_intro X d L) $$ Hsh
  iapply (SparseCore.wp_subcoreBarrier 𝒱₀ none EB (bRd X) d (sc := cV L) (i := jV L) sc_bar0 (grid0.bound 1) hsub0 (L 1) rfl κ (fun _ => 0) (jV L).val
      (fun j => bRd_mem₀ X d _ _ _) (fun _ => rfl) (bRd_expect X d _ _) (some 0) O _) $$ [HO Htoks Hpays Hcred Hat]
  · isplitr; · iexact Hinv
    isplitl [HO]; · iexact HO
    isplitl [Htoks Hpays]
    · rw [bigSep_sep', bigSep_sep']
      isplitl [Htoks]; · iexact Htoks
      isplitl [Hpays]; · iexact Hpays
      iexact Hrch
    isplitl [Hcred]; · iexact Hcred
    isplitl [Hat]; · iexact Hat
    iapply ((K (F := F)).mayOwe_of_bound (thr := thr d L) 3 (fun p hp => by
        rw [Finset.mem_singleton] at hp; subst hp
        show (K (F := F)).lev (bcell d (cV L) (jV L)) (some 0) ≤ 3
        rw [(K (F := F)).lev_V_reg d _ _ (show (sc_bar0 : Sem sig) ≠ (K (F := F)).go from sc_bar0_ne_go)]; exact le_rfl)
      (fun g ι hg => lt_of_lt_of_le (by decide) (hOlev g ι hg)))
    iexact Hlv
  iintro ⟨HO, Hat, -, Hgot⟩
  imod (Rounds.cell_close EB (bRd X) (g := bcell d (cV L) (jV L)) (Set.mem_univ (κ _)) (fun h => h) (bRd_duties_succ X _)) $$ [Hat] with Hbar
  · isplitr
    · iapply (SparseCore.ent (bigSep_elim (Φ := fun j : Fin (grid0.bound 1) =>
        (cellInv EB (bRd X) (κ (bcell d (cV L) (j.castLE hsub0))) (bcell d (cV L) (j.castLE hsub0)) : sProp 𝕄)) (Finset.mem_univ (L 1)))); iexact Hinv
    · iexact Hat
  ihave Hgot := (Entails.of_eq (pays_elim X d L)) $$ Hgot
  -- the combining tasks' results
  iapply (le_wp_ret)
  iapply (run_rest X d L O W) $$ [HO Hgot Hcomb Hobuf Ho Hr1 Hv7]
  · isplitr; · iexact Hmw2
    isplitl [HO]
    · iexists _
      isplitr; swap; · iexact HO
      ipureintro; intro p hp
      rcases Finset.mem_insert.mp hp with hp | hp
      · exact .inr (.inr (hp ▸ rfl))
      · exact hW₁ p hp
    isplitl [Hgot]; · iexact Hgot
    isplitl [Hcomb]; · iexact Hcomb
    isplitl [Hobuf]; · iexact Hobuf
    isplitl [Ho]; · iexists _; iexact Ho
    isplitl [Hr1]; · iexact Hr1
    iexact Hv7
  iintro ⟨HO, Hgot, Hcomb, Hobuf, Ho, Hr1, Hv7⟩
  isplitl [Hx0 Hx1 Ho Hgot Hbar]
  · isplitr [Hbar]; swap; · iexact Hbar
    isplitl [Hx0 Hx1]
    · iapply (Entails.of_eq (x_halves X d _).symm)
      isplitl [Hx0]; · iexact Hx0
      iexact Hx1
    isplitl [Ho]; · iexact Ho
    iexists _; iexact Hgot
  isplitl [Hs0 Hs1 Hpart Hcomb Hobuf Hbufs]
  · isplitl [Hs0 Hs1]
    · iapply (slots_buf d L)
      isplitl [Hs0]; · iexact Hs0
      iexact Hs1
    isplitl [Hpart]; · iexact Hpart
    isplitl [Hcomb]; · iexact Hcomb
    isplitl [Hobuf]; · iexact Hobuf
    iexact Hbufs
  isplitl [Hv5 Hv6 Hv7 Hr0 Hr1 Hsems]
  · isplitl [Hv5]; · iexact Hv5
    isplitl [Hv6]; · iexact Hv6
    isplitl [Hv7]; · iexact Hv7
    isplitl [Hr0]; · iexact Hr0
    isplitl [Hr1]; · iexact Hr1
    iexact Hsems
  iexact HO

end Tile

/-! ## The obligation -/

theorem defs₀_vector (c : Fin τ.nSC) (s : Fin τ.nSub) :
    defs₀ (F := F) (.scVector c s) 0 ()
      = SparseCore.onTile hcore0 hsub0 (fun c s => cc0__sc_pool (F := F) (coordsV c s)
          xV (Memref.isWhole_whole _) oV (Memref.isWhole_whole _) bufV (Memref.isWhole_whole _) partV (Memref.isWhole_whole _) combV (Memref.isWhole_whole _)
            obufV (Memref.isWhole_whole _) shV (Memref.isWhole_whole _) cc0_scratch5 cc0_scratch6 cc0_scratch7 cc0_scoped0 cc0_scoped1) ⟨⟩ c s := rfl

set_option maxRecDepth 16384 in
/-- Every task's body is what the launch asks of it. -/
theorem tileObl (hF : (K (F := F)).Facts) : (K (F := F)).TileObl (D (F := F)) 𝒱 (P m X) v₀ 0 := by
  intro d c i O W hO hOlev _
  have hci : ((K (F := F)).core 0 c).val < grid0.bound 0 ∧ ((K (F := F)).sub 0 i).val < grid0.bound 1 := ⟨c.isLt, i.isLt⟩
  rw [show (P m X).ox 0 (V d ((K (F := F)).core 0 c) ((K (F := F)).sub 0 i)) = oxV d ((K (F := F)).core 0 c) from rfl,
    show (P m X).x 0 (V d ((K (F := F)).core 0 c) ((K (F := F)).sub 0 i)) = bkit X d ((K (F := F)).core 0 c) ((K (F := F)).sub 0 i) from rfl]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact tile_body m X d (coordsV ⟨_, hci.1⟩ ⟨_, hci.2⟩) hF O W hO hOlev

end Cert.Proof.Pool

end
-- ==== Proof.Deal.lean ====
/-
  The launch's set-up: how a SparseCore's share of the arrays and its shared memory are dealt to its tiles and come back, and
  the ghost state the launch starts from.
-/
module

public import proofs.«01_k».proof.Proof.Tile

@[expose] public section

noncomputable section

namespace Cert.Proof.Pool

open Cert.KernelIdeal Cert.KernelIdeal.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

variable (m : (ℓ : Loc nD τ sig) → Buf (Elt F) ℓ) (X : Dev nD → XBuf F)

/-! ## Sets named by a number of their elements -/

/-- Sets whose elements tell which of them they lie in are disjoint. -/
theorem keyed_disjoint {I : Type} [DecidableEq I] {n : ℕ} (s : Fin n → Finset I) (key : I → ℕ) (h : ∀ i, ∀ y ∈ s i, key y = i.val) :
    ∀ i ∈ (Finset.univ : Finset (Fin n)), ∀ j ∈ (Finset.univ : Finset (Fin n)), i ≠ j → Disjoint (s i) (s j) :=
  fun i _ j _ hij => Finset.disjoint_left.mpr fun y hi hj => hij (Fin.ext ((h i y hi).symm.trans (h j y hj)))

theorem oC_disjoint : ∀ i ∈ (Finset.univ : Finset (Fin 2)), ∀ j ∈ (Finset.univ : Finset (Fin 2)), i ≠ j → Disjoint (oC i.val) (oC j.val) :=
  keyed_disjoint (fun c : Fin 2 => oC c.val) (fun p => (p 0).val % 512 / 256) fun _ _ h => (Finset.mem_filter.mp h).2
theorem oT_disjoint (c : ℕ) : ∀ i ∈ (Finset.univ : Finset (Fin 16)), ∀ j ∈ (Finset.univ : Finset (Fin 16)), i ≠ j → Disjoint (oT c i.val) (oT c j.val) :=
  keyed_disjoint (fun i : Fin 16 => oT c i.val) (fun p => 8 * ((p 0).val % 256 / 128)) fun _ _ h => (Finset.mem_filter.mp h).2.2
theorem shR_disjoint : ∀ i ∈ (Finset.univ : Finset (Fin 16)), ∀ j ∈ (Finset.univ : Finset (Fin 16)), i ≠ j → Disjoint (shR i.val) (shR j.val) :=
  keyed_disjoint (fun i : Fin 16 => shR i.val) (fun y => (y 0).val) fun _ _ h => (Finset.mem_filter.mp h).2
theorem shG_disjoint : ∀ i ∈ (Finset.univ : Finset (Fin 16)), ∀ j ∈ (Finset.univ : Finset (Fin 16)), i ≠ j → Disjoint (shG i.val) (shG j.val) :=
  keyed_disjoint (fun i : Fin 16 => shG i.val) (fun y => 8 * ((y 0).val / 8)) fun _ _ h => (Finset.mem_filter.mp h).2

/-- Between them the SparseCores compute every result of the array, -/
theorem oC_cover : (Finset.univ : Finset (Fin 2)).biUnion (fun c => oC c.val) = Finset.univ := by
  ext p
  simp only [Finset.mem_biUnion, Finset.mem_univ, true_and, iff_true]
  exact ⟨⟨(p 0).val % 512 / 256, by omega⟩, Finset.mem_filter.mpr ⟨Finset.mem_univ _, rfl⟩⟩
/-- the tiles of one every result of it, -/
theorem oT_cover (c : ℕ) : (Finset.univ : Finset (Fin 16)).biUnion (fun i => oT c i.val) = oC c := by
  ext p
  simp only [Finset.mem_biUnion, Finset.mem_univ, true_and]
  constructor
  · rintro ⟨i, hi⟩
    exact Finset.mem_filter.mpr ⟨Finset.mem_univ _, (Finset.mem_filter.mp hi).2.1⟩
  · intro h
    exact ⟨⟨8 * ((p 0).val % 256 / 128), by omega⟩, Finset.mem_filter.mpr ⟨Finset.mem_univ _, (Finset.mem_filter.mp h).2, rfl⟩⟩
/-- and the shared memory is the rows the tiles write, as it is the rows they read. -/
theorem shR_cover : (Finset.univ : Finset (Fin 16)).biUnion (fun i => shR i.val) = Finset.univ := by
  ext y
  simp only [Finset.mem_biUnion, Finset.mem_univ, true_and, iff_true]
  exact ⟨y 0, Finset.mem_filter.mpr ⟨Finset.mem_univ _, rfl⟩⟩
theorem shG_cover : (Finset.univ : Finset (Fin 16)).biUnion (fun i => shG i.val) = Finset.univ := by
  ext y
  simp only [Finset.mem_biUnion, Finset.mem_univ, true_and, iff_true]
  have h : (y 0).val < 16 := (y 0).isLt
  exact ⟨⟨8 * ((y 0).val / 8), by omega⟩, Finset.mem_filter.mpr ⟨Finset.mem_univ _, rfl⟩⟩

/-! ## Dealing to the SparseCores and to their tiles -/

/-- The input and the whole array of results are what the two SparseCores are handed. -/
theorem cores_deal (d : Dev nD) (f : Buf (Elt F) (oLoc d)) :
    (iprop((xLoc d ↦{fullShare} X d) ∗ oLoc d ↦{fullShare} f) : sProp 𝕄) = bigSep Finset.univ fun c : Fin 2 => coreP X d c f := by
  refine Eq.trans ?_ (bigSep_sep' _ (fun c : Fin 2 => (xLoc d ↦{qC c} X d : sProp 𝕄)) (fun c : Fin 2 => (oLoc d ↦[oC c.val]{fullShare} f : sProp 𝕄))).symm
  refine congrArg₂ (fun A B : sProp 𝕄 => iprop(A ∗ B)) (Transfers.pointsTo_deal (Finset.univ : Finset (Fin 2)) Finset.univ_nonempty fullShare) ?_
  exact (congrArg (fun I => (oLoc d ↦[I]{fullShare} f : sProp 𝕄)) oC_cover.symm).trans
    (pointsTo_biUnion (ℓ := oLoc d) (q := fullShare) (f := f) Finset.univ (fun c : Fin 2 => oC c.val) oC_disjoint)

/-- What a SparseCore is handed is its tiles' read shares and the results each writes. -/
theorem core_deal (d : Dev nD) (c : Fin 2) (f : Buf (Elt F) (oLoc d)) :
    (coreP X d c f : sProp 𝕄) = iprop((bigSep Finset.univ fun i : Fin 16 => (xLoc d ↦{qT c i} X d : sProp 𝕄))
      ∗ bigSep Finset.univ fun i : Fin 16 => (oLoc d ↦[oT c.val i.val]{fullShare} f : sProp 𝕄)) := by
  refine congrArg₂ (fun A B : sProp 𝕄 => iprop(A ∗ B)) (Transfers.pointsTo_deal (Finset.univ : Finset (Fin 16)) Finset.univ_nonempty (qC c)) ?_
  exact (congrArg (fun I => (oLoc d ↦[I]{fullShare} f : sProp 𝕄)) (oT_cover c.val).symm).trans
    (pointsTo_biUnion (ℓ := oLoc d) (q := fullShare) (f := f) Finset.univ (fun i : Fin 16 => oT c.val i.val) (oT_disjoint c.val))

/-- The shared memory is the rows its tiles write, -/
theorem sh_rows (d : Dev nD) (c : Fin τ.nSC) :
    (iprop(∃ f, shLoc d c ↦{fullShare} f) : sProp 𝕄) ⊢ bigSep Finset.univ fun i : Fin 16 => iprop(∃ f, shRowPts d c i.val f) := by
  iintro ⟨%f, H⟩
  ihave H' := ((Entails.of_eq ((congrArg (fun I => (shLoc d c ↦[I]{fullShare} f : sProp 𝕄)) shR_cover.symm).trans
    (pointsTo_biUnion (ℓ := shLoc d c) (q := fullShare) (f := f) Finset.univ (fun i : Fin 16 => shR i.val) shR_disjoint))).trans
      (SparseCore.ent (bigSep_mono (Φ := fun i : Fin 16 => shRowPts d c i.val f) (Ψ := fun i : Fin 16 => iprop(∃ f, shRowPts d c i.val f))
        fun i _ => BI.BIClass.exists_intro (Φ := fun f => shRowPts d c i.val f) f))) $$ H
  iexact H'

/-- and the rows they read, once read, are it at some contents. -/
theorem sh_groups (d : Dev nD) (c : Fin τ.nSC) :
    (bigSep Finset.univ fun i : Fin 16 => iprop(∃ f, (shLoc d c ↦[shG i.val]{fullShare} f : sProp 𝕄))) ⊢ (iprop(∃ f, shLoc d c ↦{fullShare} f) : sProp 𝕄) := by
  refine (bigSep_exists_pi Finset.univ (fun (i : Fin 16) (f : Buf (Elt F) (shLoc d c)) => (shLoc d c ↦[shG i.val]{fullShare} f : sProp 𝕄))).trans ?_
  iintro ⟨%fs, H⟩
  ihave H' := (pointsTo_biUnion_join Finset.univ (fun i : Fin 16 => shG i.val) fs (fs 0) shG_disjoint) $$ H
  icases H' with ⟨%g, -, Hg⟩
  iexists g
  iapply (Entails.of_eq (congrArg (fun I => (shLoc d c ↦[I]{fullShare} g : sProp 𝕄)) shG_cover)); iexact Hg

/-- The shared memory is among the sequencer's own buffers. -/
theorem ownBufs_seq (d : Dev nD) (c : Fin τ.nSC) :
    (ownBufs (S d c) : sProp 𝕄)
      = iprop((∃ f, shLoc d c ↦{fullShare} f) ∗ bigSep ((ownRefs (τ := τ) (.scScalar c)).erase (shRef c)) fun b => iprop(∃ f, ((d, b) : Loc nD τ sig) ↦{fullShare} f)) :=
  SparseCore.bigSep_erase' ((mem_ownRefs (p := Proc.scScalar c) (b := shRef c)).mpr rfl)

/-- A SparseCore deals what it is handed to its tiles, and what they hand back is the SparseCore's part of the results computed. -/
theorem vecSplit : (K (F := F)).VecSplit (P m X) 0 := by
  intro d c
  show iprop(coreP X d c (m (oLoc d)) ∗ ownBufs (S d (coreOf c))) ⊢ |={Set.univ}=> iprop(
      (bigSep Finset.univ fun i : Fin 16 => tileIn m X d c i)
      ∗ ((bigSep Finset.univ fun i : Fin 16 => iprop(tileOut X d c i ∗ semVal (bcell d (coreOf c) ((K (F := F)).sub 0 i)) 0))
          -∗ iprop(iprop(coreP X d c (outVal (X d)) ∗ bars d c) ∗ ownBufs (S d (coreOf c)))))
  rw [bigSep_sep' _ (fun i : Fin 16 => tileOut X d c i), bigSep_sep', bigSep_sep', bigSep_sep', bigSep_sep']
  iintro ⟨Hc, Hown⟩
  ihave Hc' := (Entails.of_eq (core_deal X d c (m (oLoc d)))) $$ Hc
  icases Hc' with ⟨Hx, Ho⟩
  ihave Hown' := (Entails.of_eq (ownBufs_seq d (coreOf c))) $$ Hown
  icases Hown' with ⟨Hsh, Hrest⟩
  imodintro
  isplitl [Hx Ho Hsh]
  · isplitl [Hx]; · iexact Hx
    isplitl [Ho]; · iexact Ho
    iapply (sh_rows d (coreOf c)); iexact Hsh
  iintro ⟨⟨Hx, Ho, Hsh⟩, Hbars⟩
  isplitr [Hsh Hrest]
  · isplitr [Hbars]; swap; · iexact Hbars
    iapply (Entails.of_eq (core_deal X d c (outVal (X d))).symm)
    isplitl [Hx]; · iexact Hx
    iexact Ho
  iapply (Entails.of_eq (ownBufs_seq d (coreOf c)).symm)
  isplitl [Hsh]; · iapply (sh_groups d (coreOf c)); iexact Hsh
  iexact Hrest

/-! ## The ghost state at the launch -/

/-- A tile of the machine. -/
abbrev Tl : Type := Dev nD × Fin τ.nSC × Fin τ.nSub
/-- Its barrier cell. -/
abbrev tcell (x : Tl) : GSem nD τ sig := bcell x.1 x.2.1 x.2.2

theorem tcell_injective : Function.Injective tcell := fun a b e => by
  obtain ⟨h1, h2⟩ := Prod.mk.inj (Prod.mk.inj e).1; obtain ⟨h3, h4⟩ := Proc.scVector.inj h2
  exact Prod.ext h1 (Prod.ext h3 h4)

/-- The barrier cells, taken from the free semaphores at the launch; -/
def bCells : Finset (GSem nD τ sig) := Finset.univ.image tcell
/-- a token of every tile in the cell of every tile of its SparseCore. -/
def bToks : Finset (GSem nD τ sig × ℕ × ℕ) :=
  (Finset.univ ×ˢ Finset.univ).image fun x : Tl × Fin (grid0.bound 1) => (bcell x.1.1 x.1.2.1 (x.2.castLE hsub0), 0, x.1.2.2.val)

/-- The pipeline's configuration, with no table to admit. -/
abbrev adm : (p : Fin 1) → (pcfgs (F := F) p).Adm := fun p => (cfgs p).toPCfg_adm
abbrev pinned := Pipeline.pin (pcfgs (F := F)) adm
theorem pin_inj : Function.Injective (Pipeline.cellOf (nD := nD) (τ := τ) (pinned (F := F))) := cellOf_inj

def u₀ : UU :=
  (initOf (K (F := F)).hsCells (K (F := F)).hsToks, (initOf bCells bToks,
    (initOf (Pipeline.cells (pinned (F := F)) pin_inj) (Pipeline.launchToks (pinned (F := F)) pin_inj), 1)))

/-- What the launch hands a TensorCore for its pipeline. -/
def G (d : Dev nD) : sProp 𝕄 := iprop(Pipeline.cellsGhost (pinned (F := F)) EP 0 d ∗ Pipeline.toksInit (pinned (F := F)) EP 0 d)

theorem ownU_split (a : UH) (b : UB) (c : UP) : (ownU ((a, (b, (c, 1))) : UU) : sProp 𝕄) ⊢ iprop(BI.own (EH a) ∗ BI.own (EB b) ∗ BI.own (EP c)) := by
  have h1 : (ownU ((a, (b, (c, 1))) : UU) : sProp 𝕄) ⊢ iprop(BI.own (EH a) ∗ BI.own (uEmb (nD := nD) (sig := sig) (Ix := HIx 1) (Val := Elt F) (Name := ℕ) (U := UU) (Lvl := ℕ) ((1, (b, (c, 1))) : UU))) :=
    BI.own_op_elim ((uEmb (nD := nD) (sig := sig) (Ix := HIx 1) (Val := Elt F) (Name := ℕ) (U := UU) (Lvl := ℕ)).toEmb.op_of_mem
      (Prod.mk_mem_op (URA.mem_op_one a) (URA.mem_one_op (b, (c, (1 : Counters))))))
  have h2 : (BI.own (uEmb (nD := nD) (sig := sig) (Ix := HIx 1) (Val := Elt F) (Name := ℕ) (U := UU) (Lvl := ℕ) ((1, (b, (c, 1))) : UU)) : sProp 𝕄)
      ⊢ iprop(BI.own (EB b) ∗ BI.own (EP c)) :=
    BI.own_op_elim (((Emb.inr : Emb (UB × (UP × Counters)) UU).trans
      (uEmb (nD := nD) (sig := sig) (Ix := HIx 1) (Val := Elt F) (Name := ℕ) (U := UU) (Lvl := ℕ)).toEmb).op_of_mem
      (Prod.mk_mem_op (URA.mem_op_one b) (URA.mem_one_op (c, (1 : Counters)))))
  iintro H
  ihave H' := h1 $$ H
  icases H' with ⟨Ha, H⟩
  isplitl [Ha]; · iexact Ha
  iapply h2; iexact H

theorem bCells_eq (Φ : GSem nD τ sig → sProp 𝕄) : bigSep bCells Φ = bigSep Finset.univ fun x : Tl => Φ (tcell x) :=
  SparseCore.bigSep_image_of_injOn (fun a _ b _ e => tcell_injective e) Φ

/-- Every barrier semaphore is among the free ones, at zero. -/
theorem sems_b : ((K (F := F)).freeOn (· ∈ bCells) : sProp 𝕄) ⊢ bigSep bCells fun g => semVal g 0 := by
  rw [bCells_eq]
  unfold SparseCore.Cfg.freeOn
  refine sep_elim_right.trans (bigSep_mono fun x _ => ?_)
  exact bigSep_elim (Φ := fun sm : SemLoc sig => (semVal (V x.1 x.2.1 x.2.2, sm) 0 : sProp 𝕄)) (Finset.mem_filter.mpr
    ⟨Finset.mem_erase.mpr ⟨fun h => sc_bar0_ne_go (SemLoc.reg.inj h), Finset.mem_filter.mpr ⟨Finset.mem_univ _, by decide⟩⟩,
      Finset.mem_image_of_mem tcell (Finset.mem_univ x)⟩)

/-- The barrier cells' invariants, allocated together. -/
theorem invs_b : iprop((bigSep bCells fun g => (semVal g 0 : sProp 𝕄)) ∗ bigSep bCells fun g => roundState EB (bRd X) g 0)
    ⊢ |={Set.univ}=> iprop(∃ κ : GSem nD τ sig → ℕ, bigSep bCells fun g => cellInv EB (bRd X) (κ g) g) := by
  refine (Rounds.bodies_intro EB (bRd X) bCells).trans ((inv_alloc_family bCells (Rounds.body EB (bRd X)) ∅ (E := Set.univ)).trans ?_)
  iintro H
  imod H with ⟨%κ, -, Hinv⟩
  imodintro; iexists κ; iexact Hinv

theorem sum_tallyAt_one (g : GSem nD τ sig) (ι : HIx 1) (n : ℕ) : ∑ _ : Fin n, tallyAt g ι 1 = (tallyAt g ι n : CellTallies nD τ sig (HIx 1)) := by
  induction n with
  | zero => rw [Fin.sum_univ_zero, tallyAt_zero]
  | succ n ih => rw [Fin.sum_univ_castSucc, ih, tallyAt_add]

/-- The credit for the tiles' barrier debts, gathered by the cell it is for: sixteen units each. -/
theorem creds_b : ((P m X).oxCred : sProp 𝕄) ⊢ bigSep Finset.univ fun x : Tl => cred (tallyAt (tcell x) (some 0) (grid0.bound 1)) := by
  unfold SparseCore.Cfg.Pay.oxCred
  rw [SparseCore.Cfg.bigSep_threads (fun thr : Thread nD τ => (cred ((P m X).oxFrom 0 thr) : sProp 𝕄))]
  refine sep_elim_right.trans (sep_elim_right.trans ?_)
  rw [bigSep_univ_prod, bigSep_univ_prod (fun x : Tl => (cred (tallyAt (tcell x) (some 0) (grid0.bound 1)) : sProp 𝕄))]
  refine bigSep_mono fun d _ => ?_
  rw [bigSep_univ_prod, bigSep_univ_prod (fun ci : Fin τ.nSC × Fin τ.nSub => (cred (tallyAt (tcell (d, ci)) (some 0) (grid0.bound 1)) : sProp 𝕄))]
  refine bigSep_mono fun c _ => ?_
  have hox : ∀ i, (P m X).oxFrom 0 (V d c i) = oxV d c := fun i => by
    rw [show (0 : ℕ) = (0 : Fin 1).val from rfl, (P m X).oxFrom_step, (P m X).oxFrom_end _ (n := (0 : Fin 1).val + 1) le_rfl, add_zero]; rfl
  simp only [hox]
  unfold oxV
  rw [SparseCore.Cfg.cred_finsum, bigSep_univ_comm]
  refine bigSep_mono fun j _ => ?_
  rw [← SparseCore.Cfg.cred_finsum, sum_tallyAt_one]; rfl

theorem toks_b : (bigSep bToks fun x => (dutyTok EB x.1 x.2.1 x.2.2 : sProp 𝕄))
    = bigSep Finset.univ fun x : Tl => bigSep Finset.univ fun j : Fin (grid0.bound 1) => dutyTok EB (bcell x.1 x.2.1 (j.castLE hsub0)) 0 x.2.2.val := by
  unfold bToks
  rw [SparseCore.bigSep_image_of_injOn, SparseCore.bigSep_product]
  rintro ⟨⟨d, c, i⟩, j⟩ - ⟨⟨d', c', i'⟩, j'⟩ - e
  obtain ⟨e1, e2⟩ := Prod.mk.inj e
  obtain ⟨rfl, h⟩ := Prod.mk.inj (Prod.mk.inj e1).1
  obtain ⟨rfl, hj⟩ := Proc.scVector.inj h
  obtain rfl : j = j' := Fin.ext (congrArg Fin.val hj)
  obtain rfl : i = i' := Fin.ext (Prod.mk.inj e2).2
  rfl

/-- What may be used again and again goes to every conjunct of a separating conjunction. -/
theorem bigSep_share {I : Type} [DecidableEq I] {R : sProp 𝕄} [BI.Persistent R] (s : Finset I) {Φ Ψ : I → sProp 𝕄}
    (h : ∀ i, iprop(R ∗ Φ i) ⊢ Ψ i) : iprop(R ∗ bigSep s Φ) ⊢ bigSep s Ψ := by
  induction s using Finset.induction_on with
  | empty => rw [bigSep_empty, bigSep_empty]; exact sep_elim_right
  | insert a s ha ih =>
    rw [SparseCore.bigSep_insert' ha, SparseCore.bigSep_insert' ha]
    iintro ⟨#HR, H1, H2⟩
    isplitl [H1]
    · iapply (h a)
      isplitr
      · iexact HR
      · iexact H1
    · iapply ih
      isplitr
      · iexact HR
      · iexact H2

/-- The same for a family of such resources, picked from by a map. -/
theorem bigSep_pick {I J : Type} [DecidableEq I] [DecidableEq J] [Fintype I] [Fintype J] (Φ : I → sProp 𝕄) [∀ i, BI.Persistent (Φ i)] (f : J → I) :
    bigSep Finset.univ Φ ⊢ bigSep Finset.univ fun j => Φ (f j) := by
  iintro #H
  iapply (bigSep_share (R := bigSep Finset.univ Φ) (Finset.univ : Finset J) (Φ := fun _ => iprop(emp))
    fun j => sep_elim_left.trans (bigSep_elim (Φ := Φ) (Finset.mem_univ (f j))))
  isplitr
  · iexact H
  · rw [bigSep_nothing]; iempintro

/-- What every tile is handed alike: the barrier cells' invariants, and that each has reached round 0. -/
abbrev alike : sProp 𝕄 :=
  iprop((∃ κ : GSem nD τ sig → ℕ, bigSep Finset.univ fun x : Tl => cellInv EB (bRd X) (κ (tcell x)) (tcell x))
    ∗ bigSep Finset.univ fun x : Tl => reached EB (tcell x) 0)
/-- What each is handed of its own: its position, its tokens, its credit. -/
abbrev single (x : Tl) : sProp 𝕄 :=
  iprop(atPos EB (tcell x) 0 ∅ 0
    ∗ (bigSep Finset.univ fun j : Fin (grid0.bound 1) => dutyTok EB (bcell x.1 x.2.1 (j.castLE hsub0)) 0 x.2.2.val)
    ∗ cred (tallyAt (tcell x) (some 0) (grid0.bound 1)))

/-- The two are a tile's kit. -/
theorem kit_intro (x : Tl) : iprop(alike X ∗ single x) ⊢ (bkit X x.1 x.2.1 x.2.2 : sProp 𝕄) := by
  obtain ⟨d, c, i⟩ := x
  iintro ⟨⟨⟨%κ, #Hinv⟩, #Hr⟩, Hat, Htok, Hcred⟩
  unfold bkit
  isplitr
  · iexists κ
    iapply (bigSep_pick (fun x : Tl => cellInv EB (bRd X) (κ (tcell x)) (tcell x)) fun j : Fin (grid0.bound 1) => ((d, c, j.castLE hsub0) : Tl))
    iexact Hinv
  isplitl [Htok]; · iexact Htok
  isplitr
  · iapply (bigSep_pick (fun x : Tl => (reached EB (tcell x) 0 : sProp 𝕄)) fun j : Fin (grid0.bound 1) => ((d, c, j.castLE hsub0) : Tl))
    iexact Hr
  isplitl [Hat]; · iexact Hat
  iexact Hcred

theorem Px_T (d : Dev nD) : (bigSep Finset.univ fun q : Fin 1 => (P m X).x q (SparseCore.T d)) = iprop(emp) :=
  bigSep_univ_of_subsingleton (0 : Fin 1)
theorem Px_S (d : Dev nD) (c : Fin τ.nSC) : (bigSep Finset.univ fun q : Fin 1 => (P m X).x q (S d c)) = iprop(emp) :=
  bigSep_univ_of_subsingleton (0 : Fin 1)
theorem Px_V (d : Dev nD) (c : Fin τ.nSC) (i : Fin τ.nSub) : (bigSep Finset.univ fun q : Fin 1 => (P m X).x q (V d c i)) = bkit X d c i :=
  bigSep_univ_of_subsingleton (0 : Fin 1)

/-- Every tile its kit. -/
theorem kits_deal :
    iprop(alike X ∗ (bigSep Finset.univ fun x : Tl => atPos EB (tcell x) 0 ∅ 0)
        ∗ (bigSep Finset.univ fun x : Tl => bigSep Finset.univ fun j : Fin (grid0.bound 1) => dutyTok EB (bcell x.1 x.2.1 (j.castLE hsub0)) 0 x.2.2.val)
        ∗ (bigSep Finset.univ fun x : Tl => cred (tallyAt (tcell x) (some 0) (grid0.bound 1))))
      ⊢ (bigSep Finset.univ fun thr : Thread nD τ => bigSep Finset.univ fun q : Fin 1 => (P m X).x q thr : sProp 𝕄) := by
  rw [SparseCore.Cfg.bigSep_threads (fun thr : Thread nD τ => bigSep Finset.univ fun q : Fin 1 => (P m X).x q thr)]
  simp only [Px_T, Px_S, Px_V, bigSep_nothing]
  iintro ⟨#Hsh, Hat, Htok, Hcred⟩
  isplitr; · iempintro
  isplitr; · iempintro
  iapply (bigSep_share (R := alike X) Finset.univ (Φ := single (F := F)) fun x => kit_intro X x)
  isplitr; · iexact Hsh
  unfold single
  rw [bigSep_sep', bigSep_sep']
  isplitl [Hat]; · iexact Hat
  isplitl [Htok]; · iexact Htok
  iexact Hcred

/-- The launch's ghost state set up: the handshakes' cells, each TensorCore's pipeline, each tile's barrier kit. -/
theorem hu₀ : iprop(ownU (u₀ (F := F)) ∗ (P m X).oxCred ∗ (K (F := F)).freeOn (· ∈ bCells))
    ⊢ |={Set.univ}=> iprop(BI.own (EH (initOf (K (F := F)).hsCells (K (F := F)).hsToks)) ∗ (bigSep Finset.univ fun d : Dev nD => G d)
        ∗ (bigSep Finset.univ fun thr : Thread nD τ => bigSep Finset.univ fun q : Fin 1 => (P m X).x q thr) : sProp 𝕄) := by
  unfold u₀
  iintro ⟨Hu, Hcred, Hfree⟩
  ihave H := (ownU_split _ _ _) $$ Hu
  icases H with ⟨HH, HB, HP⟩
  imod (Rounds.fund EB (bRd X) bCells bToks) $$ HB with ⟨Hst, #Hr, Hat, Htok⟩
  imod (Pipeline.fund_ghost (pinned (F := F)) EP pin_inj) $$ HP with ⟨Hgh, Htk⟩
  ihave Hsems := (sems_b (F := F)) $$ Hfree
  imod (invs_b X) $$ [Hsems Hst] with ⟨%κ, #Hinv⟩
  · isplitl [Hsems] <;> iassumption
  ihave Hcred' := (creds_b m X) $$ Hcred
  ihave Hinv' := (Entails.of_eq (bCells_eq fun g => cellInv EB (bRd X) (κ g) g)) $$ Hinv
  ihave Hr' := (Entails.of_eq (bCells_eq (F := F) fun g => reached EB g 0)) $$ Hr
  ihave Hat' := (Entails.of_eq (bCells_eq (F := F) fun g => atPos EB g 0 ∅ 0)) $$ Hat
  ihave Htok' := (Entails.of_eq (toks_b (F := F))) $$ Htok
  imodintro
  isplitl [HH]; · iexact HH
  isplitl [Hgh Htk]
  · unfold G
    rw [bigSep_sep']
    isplitl [Hgh]
    · iapply (SparseCore.ent (bigSep_mono (Φ := fun d : Dev nD => bigSep Finset.univ fun p : Fin 1 => Pipeline.cellsGhost (pinned (F := F)) EP p d)
        (Ψ := fun d : Dev nD => Pipeline.cellsGhost (pinned (F := F)) EP 0 d) fun d _ => Entails.of_eq (bigSep_univ_of_subsingleton (0 : Fin 1)))); iexact Hgh
    · iapply (SparseCore.ent (bigSep_mono (Φ := fun d : Dev nD => bigSep Finset.univ fun p : Fin 1 => Pipeline.toksInit (pinned (F := F)) EP p d)
        (Ψ := fun d : Dev nD => Pipeline.toksInit (pinned (F := F)) EP 0 d) fun d _ => Entails.of_eq (bigSep_univ_of_subsingleton (0 : Fin 1)))); iexact Htk
  iapply (kits_deal m X)
  isplitr
  · isplitl; · iexists κ; iexact Hinv'
    iexact Hr'
  isplitl [Hat']; · iexact Hat'
  isplitl [Htok']; · iexact Htok'
  iexact Hcred'

end Cert.Proof.Pool

end
-- ==== Proof.Region.lean ====
/-
  The TensorCore's pallas_call: what its body stores for one batch, and the call as the pipeline runs it: from the input and
  the result array held whole to the result array holding every batch's 1536 results.
-/
module

public import proofs.«01_k».proof.Proof.Deal
public import proofs.«01_k».proof.Proof.Gen.KernelIdeal.Points
public import proofs.«01_k».proof.Proof.Gen.KernelIdeal.Skeleton
public import Idealize.ShloMosaic.Lib.Pipeline.FrameBody
public import Idealize.ShloMosaic.Lib.Pipeline.Value
public import Idealize.ShloMosaic.Lib.Pipeline.RegionsLoop

@[expose] public section

noncomputable section

namespace Cert.Proof.Pool

open Cert.KernelIdeal Cert.KernelIdeal.Gen

open Idealize.ShloMosaic Idealize.ShloMosaic.ValueIdx
open Idealize.ShloMosaic.TcCoe
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (Dat Cfg Window BodyObligation)

variable {F : FTy → Type} [FloatOps F]

local notation "𝕄" => MT nD τ sig (HIx 1) (Elt F) ℕ UU ℕ

/-! ## The body -/

abbrev tcInR : Rect S1x2048x1536 := Rect.unit (s := S1x2048x1536) ![0, 0, 0] S1x2048x1536.size inb_S1x2048x1536_S1x2048x1536_0_0_0
abbrev tcOutR : Rect S1x1x1536 := Rect.unit (s := S1x1x1536) ![0, 0, 0] S1x1x1536.size inb_S1x1x1536_S1x1x1536_0_0_0

/-- The rectangles the body loads and stores through are the whole buffers. -/
theorem tcInR_emb (y : S1x2048x1536.Idx) : tcInR.emb y = y := by
  funext a
  refine Fin.ext ?_
  fin_cases a <;> exact (Nat.zero_add _).trans (Nat.one_mul _)
theorem tcOutR_emb (y : S1x1x1536.Idx) : tcOutR.emb y = y := by
  funext a
  refine Fin.ext ?_
  fin_cases a <;> exact (Nat.zero_add _).trans (Nat.one_mul _)

/-- Loading through the first reads the whole contents, -/
theorem tcIn_readAt (M : Memref sig .tc .vmem S1x2048x1536 .f32) (f : M.view.ty.Contents (Elt F)) :
    M.view.readAt (Elt F) tcInR.toLoadRect f = M.view.read (Elt F) f :=
  funext fun y => congrArg (M.view.read (Elt F) f) (tcInR_emb y)
theorem tcOut_readAt (M : Memref sig .tc .vmem S1x1x1536 .f32) (f : M.view.ty.Contents (Elt F)) :
    M.view.readAt (Elt F) tcOutR.toLoadRect f = M.view.read (Elt F) f :=
  funext fun y => congrArg (M.view.read (Elt F) f) (tcOutR_emb y)
theorem tcOut_sub (M : Memref sig .tc .vmem S1x1x1536 .f32) : (M.access tcOutR).setOn Finset.univ ⊆ M.view.set := by
  refine (View.setOn_subset_set _ _).trans ?_
  rw [View.set_slice]
  exact View.setOn_subset_set _ _
/-- and storing through the second replaces them. -/
theorem tcOut_write (M : Memref sig .tc .vmem S1x1x1536 .f32) (f : M.view.ty.Contents (Elt F)) (w : S1x1x1536.Idx → Elt F .f32) :
    M.view.read (Elt F) ((M.access tcOutR).write (Elt F) f w Finset.univ) = w :=
  (tcOut_readAt M _).symm.trans (View.read_write_univ (v := M.access tcOutR) f w)

/-- From its two staging buffers, the input's holding `A`, the body leaves the other holding the batch's results. -/
theorem body_run (d : Dev nD) (i : grid1.Coords) (M0 : Memref sig .tc .vmem S1x2048x1536 .f32) (h0 : M0.IsWhole)
    (M1 : Memref sig .tc .vmem S1x1x1536 .f32) (h1 : M1.IsWhole) (A : S1x2048x1536.Idx → Elt F .f32) (B : S1x1x1536.Idx → Elt F .f32)
    (Q : PUnit → sProp 𝕄) :
    iprop(owns (d : Thread nD τ) M0 fullShare A ∗ owns (d : Thread nD τ) M1 fullShare B
        ∗ (iprop(owns (d : Thread nD τ) M0 fullShare A ∗ owns (d : Thread nD τ) M1 fullShare (k1_pay1 A)) -∗ Q ⟨⟩))
      ⊢ wp frame (wpE (defs₀ (F := F)) 𝒱₀ (d : Thread nD τ) none) Set.univ (cc1__tc_body i M0 h0 M1 h1) Q := by
  rw [cc1__tc_body_eq_skeleton]
  unfold cc1__tc_body_skel owns Prog.lift
  simp only [Prog.bind_op, Prog.bind_ret]
  iintro ⟨⟨%f0, %e0, H0⟩, ⟨%f1, %e1, H1⟩, HQ⟩
  iapply (wp_load (r := tcInR.toLoadRect) 𝒱₀ (d : Thread nD τ) none Set.univ (View.setOn_subset_set _ _)) $$ H0
  iintro H0
  iapply (wp_load (r := tcOutR.toLoadRect) 𝒱₀ (d : Thread nD τ) none Set.univ (View.setOn_subset_set _ _)) $$ H1
  iintro H1
  iapply (wp_store (m := M1) (r := tcOutR) 𝒱₀ (d : Thread nD τ) none Set.univ (S := M1.view.set) (f := f1) (tcOut_sub M1)) $$ H1
  iintro H1
  iapply le_wp_ret
  iapply HQ
  isplitl [H0]
  · iexists f0
    isplitr
    · ipureintro; exact e0
    · iexact H0
  · iexists _
    isplitr
    swap
    · iexact H1
    · ipureintro
      rw [tcIn_readAt, e0]
      exact tcOut_write M1 f1 _

/-! ## The blocks -/

/-- The input array's contents, and the call's results'. -/
abbrev InBuf (F : FTy → Type) : Type := S4x2048x2048.Idx → Elt F .f32
abbrev TcBuf (F : FTy → Type) : Type := S4x1x1536.Idx → Elt F .f32

/-- Batch `b`'s first 1536 columns, -/
def batchV (A : InBuf F) (b : Fin 4) : S1x2048x1536.Idx → Elt F .f32 :=
  fun y => A (ix3 b (y 1) ⟨(y 2).val, by have : (y 2).val < 1536 := (y 2).isLt; omega⟩)

/-- and the results of all four batches. -/
def tcVal (A : InBuf F) : TcBuf F := fun p => k1_pay1 (batchV A (p 0)) (ix3 (0 : Fin 1) (0 : Fin 1) (p 2))

abbrev batchOf (t : Fin cfg1.N) : Fin 4 := ⟨t.val, N_1 ▸ t.isLt⟩

/-- No block of the input is cut, -/
theorem clip_none (t : Fin cfg1.N) : ∀ a, (cfg1.win 0).clip (grid1.coords t) a = none := by
  rcases fin_N1 t with rfl | rfl | rfl | rfl <;> decide
/-- point `t`'s blocks are batch `t`'s. -/
theorem index_in (t : Fin cfg1.N) : (cfg1.win 0).index t = ![t.val, 0, 0] := by
  rcases fin_N1 t with rfl | rfl | rfl | rfl <;> decide
theorem index_out (t : Fin cfg1.N) : (cfg1.win 1).index t = ![t.val, 0, 0] := by
  rcases fin_N1 t with rfl | rfl | rfl | rfl <;> decide

/-- What a fetch of batch `t`'s block leaves in the staging buffer. -/
theorem fill_block (A : InBuf F) (t : Fin cfg1.N) (e : S1x2048x1536.Idx → Elt F .f32) :
    (cfg1.win 0).fill (grid1.coords t) e (((cfg1.win 0).blk t).view.read (Elt F) A) = batchV A (batchOf t) := by
  funext y
  have hm : (cfg1.win 0).moved (grid1.coords t) y = true :=
    ((cfg1.win 0).moved_iff _ y).mpr fun a => by have := (y a).isLt; unfold Window.xsize; rw [clip_none t a]; exact this
  have hx : ∀ x : ((cfg1.win 0).xblock (grid1.coords t)).Idx, (∀ a, (x a).val = (y a).val) →
      ((cfg1.win 0).blk t).view.emb x = ix3 (batchOf t) (y 1) (⟨(y 2).val, (y 2).isLt.trans (by decide)⟩ : Fin 2048) := by
    intro x hxy
    funext a
    refine Fin.ext (((cfg1.win 0).rect_emb_val t x a).trans ?_)
    rw [index_in t, hxy]
    have h0 : (y 0).val < 1 := (y 0).isLt
    fin_cases a
    · show t.val * 1 + (y 0).val = t.val; omega
    · show 0 * 2048 + (y 1).val = (y 1).val; omega
    · show 0 * 1536 + (y 2).val = (y 2).val; omega
  unfold Window.fill
  rw [dif_pos hm, View.read_apply]
  rw [hx _ fun _ => rfl]
  rfl

/-! ## The call as the pipeline runs it -/

variable (A : Dev nD → InBuf F) (B : Dev nD → TcBuf F) (lim : ℕ)

/-- The waits a core has recorded so far: at levels up to `lim`. -/
abbrev lowWaits (d : Dev nD) : Set (SemLoc sig × HIx 1) := {p | (K (F := F)).lev (SparseCore.T d, p.1) p.2 ≤ lim}

/-- The proof data: the arrays at `A` and `B`; after the body at point `t` the input's buffer holds batch `t`'s block and the
    other its results; nothing owed. -/
def dat (d : Dev nD) : Dat τ (Elt F) (HIx 1) ℕ UU ℕ cfg1 d where
  A w := match w with
    | ⟨0, _⟩ => A d
    | ⟨1, _⟩ => B d
  after w t := match w with
    | ⟨0, _⟩ => batchV (A d) (batchOf t)
    | ⟨1, _⟩ => k1_pay1 (batchV (A d) (batchOf t))
  Φ _ := iprop(emp)
  q _ := fullShare
  owed _ := 0
  recorded _ := lowWaits (F := F) lim d

def pdats : (p : Fin 1) → (d : Dev nD) → Dat τ (Elt F) (HIx 1) ℕ UU ℕ (pinned (F := F) p) d
  | 0 => fun d => dat A B lim d

theorem before_in (d : Dev nD) (t : Fin cfg1.N) (e) : (dat A B lim d).before (0 : Fin 2) t e = batchV (A d) (batchOf t) := by
  unfold Dat.before; rw [if_pos (fetch1_0 t)]; exact fill_block (A d) t e

theorem body_obligation (d : Dev nD) : BodyObligation (dat A B lim d) (defs₀ (F := F)) 𝒱₀ none Set.univ := fun t => by
  rw [bigSep_W1, bigSep_W1]
  rw [show (dat A B lim d).Φ t.succ = (dat A B lim d).Φ t.castSucc from rfl,
    show (dat A B lim d).owesAt none t.succ = (dat A B lim d).owesAt none t.castSucc from rfl]
  iintro ⟨HΦ, Ho, ⟨%e0, H0⟩, ⟨%e1, H1⟩⟩
  rw [before_in A B lim d t e0]
  iapply (body_run d (grid1.coords t) (win1_0.stage (cfg1.slots t 0)) (hstage1_0 ((cfg1.slots t 0).cast nbuf1_0))
    (win1_1.stage (cfg1.slots t 1)) (hstage1_1 ((cfg1.slots t 1).cast nbuf1_1)) (batchV (A d) (batchOf t)) _ _)
  isplitl [H0]; · iexact H0
  isplitl [H1]; · iexact H1
  iintro ⟨H0, H1⟩
  isplitl [HΦ]; · iexact HΦ
  isplitl [Ho]; · iexact Ho
  isplitl [H0]; · iexact H0
  iexact H1

/-- Position `y` of point `t`'s block of the results is batch `t`'s. -/
theorem out_emb (t : Fin cfg1.N) (y : ((cfg1.win 1).xblock (grid1.coords t)).Idx) :
    ((cfg1.win 1).blk t).view.emb y = (ix3 (batchOf t) (0 : Fin 1) (⟨(y 2).val, (y 2).isLt⟩ : Fin 1536) : S4x1x1536.Idx) := by
  have h0 : (y 0).val < 1 := (y 0).isLt
  have h1 : (y 1).val < 1 := (y 1).isLt
  funext a
  refine Fin.ext (((cfg1.win 1).rect_emb_val t y a).trans ?_)
  rw [index_out t]
  fin_cases a
  · show t.val * 1 + (y 0).val = t.val; omega
  · show 0 * 1 + (y 1).val = 0; omega
  · show 0 * 1536 + (y 2).val = (y 2).val; omega

/-- The result array after the call. -/
theorem arrAt_out (d : Dev nD) : (dat A B lim d).arrAt (1 : Fin 2) cfg1.N = tcVal (A d) := by
  refine Dat.arrAt_eq_of_cover (dat A B lim d) (1 : Fin 2) (tcVal (A d)) (fun t _ => ?_) fun p => ?_
  · funext y
    rw [View.read_apply, out_emb]
    refine (congrArg (k1_pay1 (batchV (A d) (batchOf t))) (?_ : _ = ix3 (0 : Fin 1) (0 : Fin 1) (⟨(y 2).val, (y 2).isLt⟩ : Fin 1536))).trans rfl
    have h0 : (y 0).val < 1 := (y 0).isLt
    have h1 : (y 1).val < 1 := (y 1).isLt
    funext a
    fin_cases a
    · exact Fin.ext (by show (y 0).val = 0; omega)
    · exact Fin.ext (by show (y 1).val = 0; omega)
    · rfl
  · have h0 : (p 0).val < 4 := (p 0).isLt
    have h1 : (p 1).val < 1 := (p 1).isLt
    let t : Fin cfg1.N := ⟨(p 0).val, lt_of_lt_of_eq h0 N_1.symm⟩
    let y : ((cfg1.win 1).xblock (grid1.coords t)).Idx := (ix3 (0 : Fin 1) (0 : Fin 1) (⟨(p 2).val, (p 2).isLt⟩ : Fin 1536) : S1x1x1536.Idx)
    have hp : p = ((cfg1.win 1).blk t).view.emb y := by
      rw [out_emb]
      funext a
      fin_cases a
      · rfl
      · exact Fin.ext (by show (p 1).val = 0; omega)
      · rfl
    exact ⟨t, flush1_1 t, hp ▸ View.emb_mem_set _ y⟩

abbrev aLoc (d : Dev nD) : Loc nD τ sig := (SparseCore.T d).loc main_arg0
abbrev rLoc (d : Dev nD) : Loc nD τ sig := (SparseCore.T d).loc main_v2

/-- What a core's waits so far have recorded, within the bound. -/
abbrev idleOwes (d : Dev nD) : sProp 𝕄 := iprop(∃ W, ⌜(K (F := F)).WBelow (SparseCore.T d) W lim⌝ ∗ owes (SparseCore.T d) (0 : CellTallies nD τ sig (HIx 1)) W)

/-- The two arrays, held whole. -/
theorem arrays_pair (d : Dev nD) (n : ℕ) : ((dat A B lim d).arrays ((dat A B lim d).arrAt · n) : sProp 𝕄)
    = iprop((aLoc d ↦{fullShare} A d) ∗ (rLoc d ↦{fullShare} ((dat A B lim d).arrAt (1 : Fin 2) n))) := by
  unfold Dat.arrays
  rw [bigSep_W1]
  have e0 : (dat A B lim d).arrAt (0 : Fin 2) n = A d := (dat A B lim d).arrAt_in 0 rfl n
  have s0 : (cfg1.win 0).arr.view.set = Finset.univ := View.set_whole _
  have s1 : (cfg1.win 1).arr.view.set = Finset.univ := View.set_whole _
  beta_reduce
  rw [e0, s0, s1]
  rfl

set_option backward.isDefEq.respectTransparency.types false in
/-- The call as one step of the TensorCore's program: from the input and the result array held whole to the result array
    holding the results. -/
def reg : Pipeline.RegionSeg (pcfgs (F := F)) adm (pdats A B lim) none defs₀ 𝒱₀ (K (F := F)).L (K (F := F)).lev 0 where
  win := launch1.win.to₀
  block_pos := launch1.block_pos
  stage_whole := launch1.stage_whole
  K := PEmpty
  osem k := k.elim
  ho := Pipeline.OwnSemFacts.none _
  hbody d := (body_obligation A B lim d).loose
  hwaits := Pipeline.hwaits_of_owed_zero _ _ _ _ (K (F := F)).L (K (F := F)).lev 0 fun _ _ => rfl
  pre d := iprop(((aLoc d ↦{fullShare} A d) ∗ (rLoc d ↦{fullShare} B d)) ∗ idleOwes lim d)
  post d := iprop(((aLoc d ↦{fullShare} A d) ∗ (rLoc d ↦{fullShare} tcVal (A d))) ∗ idleOwes lim d)
  X _ := BI.emp
  Y _ := BI.emp
  Z _ := BI.emp
  hentry d := by
    rw [Pipeline.ownSems0_none]
    have hs : iprop((aLoc d ↦{fullShare} A d) ∗ (rLoc d ↦{fullShare} B d)) ⊢ (pdats A B lim 0 d).arrays ((pdats A B lim 0 d).arrAt · 0) :=
      Entails.of_eq (arrays_pair A B lim d 0).symm
    iintro ⟨⟨Hab, %W, %hW, HO⟩, -, -⟩
    imodintro
    isplitl [Hab]
    · iapply hs; iexact Hab
    isplitr
    · unfold Pipeline.prefHeld; rw [show (Finset.univ : Finset (Fin 0)) = ∅ from rfl, BI.bigSep_empty]; iempintro
    isplitl [HO]
    · unfold Pipeline.Dat.owesAt Pipeline.owesWithin
      iexists W
      isplitr
      · ipureintro; exact fun p hp => Or.inl (hW p hp)
      iexact HO
    isplitr <;> iempintro
  hin d := by
    rw [show (pdats A B lim 0 d).Φ 0 = BI.emp from rfl]
    iintro ⟨-, -, -⟩; iempintro
  hout d := by
    rw [Pipeline.ownSems0_none, show (pdats A B lim 0 d).Φ (Fin.last _) = BI.emp from rfl]
    iintro -
    isplitr; · iempintro
    isplitr; · iempintro
    iapply (Entails.of_eq (scopedRest1_eq d).symm); iempintro
  hexit d := by
    have hs : (pdats A B lim 0 d).arrays ((pdats A B lim 0 d).arrAt · cfg1.N) ⊢ iprop((aLoc d ↦{fullShare} A d) ∗ (rLoc d ↦{fullShare} tcVal (A d))) :=
      (Entails.of_eq (arrays_pair A B lim d cfg1.N)).trans (by rw [arrAt_out])
    iintro ⟨Ha, HO, -, -⟩
    imodintro
    isplitl [Ha]
    · iapply hs; iexact Ha
    unfold Pipeline.Dat.owesAt Pipeline.owesWithin
    icases HO with ⟨%W, %hW, HO⟩
    iexists W
    isplitr
    · ipureintro
      intro p hp
      rcases hW hp with h | ⟨w, s, rfl⟩
      · exact h
      · exact Nat.zero_le _
    iexact HO

end Cert.Proof.Pool

end
-- ==== Proof.Main.lean ====
/-
  The whole program: @main on the TensorCore (the input's reshape, the SparseCore call, the TensorCore call, the results put
  together), the launch of all threads, and what every run ends with.
-/
module

public import proofs.«01_k».proof.Proof.Region

@[expose] public section

noncomputable section

namespace Cert.Proof.Pool

open Cert.KernelIdeal Cert.KernelIdeal.Gen

open Idealize.ShloMosaic Idealize.ShloMosaic.ValueIdx
open Idealize.ShloMosaic.TcCoe
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

variable (m : (ℓ : Loc nD τ sig) → Buf (Elt F) ℓ) (ρ : Dev nD → PrngReg)

/-! ## The steps of @main -/

/-- A StableHLO operation reading one buffer and writing another. -/
theorem wp_two (d : Dev nD) (op : HloOp τ sig (Elt F)) (x y : DevRef τ sig) (hxy : x ≠ y) (hb : op.bufs = {x, y}) (hw : op.writes = {y})
    (hf : op.fresh = ∅) (V : Valuation τ sig (Elt F)) (Q : PUnit → sProp 𝕄) :
    iprop(boundary (SparseCore.T d) ∗ (((d, x) : Loc nD τ sig) ↦{fullShare} V x) ∗ (((d, y) : Loc nD τ sig) ↦{fullShare} V y))
      ⊢ iprop(((boundary (SparseCore.T d) ∗ (((d, x) : Loc nD τ sig) ↦{fullShare} V x) ∗ (((d, y) : Loc nD τ sig) ↦{fullShare} op.result V y)) -∗ Q ⟨⟩)
        -∗ wp frame (wpE ((K (F := F)).defs (D (F := F))) 𝒱 (SparseCore.T d) none) Set.univ (hlo rfl op fun _ => .ret ⟨⟩) Q) := by
  have h := wp_hlo (defs := (K (F := F)).defs (D (F := F))) 𝒱 (SparseCore.T d) none Set.univ (Γ := .empty) (hp := rfl) (op := op) (k := fun _ => .ret ⟨⟩) (Q := Q)
    (q := fun _ => fullShare) (F := V) (fun _ _ => rfl) hf
  rw [hb, SparseCore.bigSep_insert' (by simpa using hxy), bigSep_singleton, SparseCore.bigSep_insert' (by simpa using hxy), bigSep_singleton,
    op.result_of_not_mem V (b := x) (by rw [hw]; simpa using hxy)] at h
  iintro H HQ
  iapply h $$ H
  iintro H
  iapply le_wp_ret
  iapply HQ
  iexact H

/-- One reading two buffers and writing a third. -/
theorem wp_three (d : Dev nD) (op : HloOp τ sig (Elt F)) (x x' y : DevRef τ sig) (hxx : x ≠ x') (hxy : x ≠ y) (hxy' : x' ≠ y)
    (hb : op.bufs = {x, x', y}) (hw : op.writes = {y}) (hf : op.fresh = ∅) (V : Valuation τ sig (Elt F)) (Q : PUnit → sProp 𝕄) :
    iprop(boundary (SparseCore.T d) ∗ (((d, x) : Loc nD τ sig) ↦{fullShare} V x) ∗ (((d, x') : Loc nD τ sig) ↦{fullShare} V x') ∗ (((d, y) : Loc nD τ sig) ↦{fullShare} V y))
      ⊢ iprop(((boundary (SparseCore.T d) ∗ (((d, x) : Loc nD τ sig) ↦{fullShare} V x) ∗ (((d, x') : Loc nD τ sig) ↦{fullShare} V x')
            ∗ (((d, y) : Loc nD τ sig) ↦{fullShare} op.result V y)) -∗ Q ⟨⟩)
        -∗ wp frame (wpE ((K (F := F)).defs (D (F := F))) 𝒱 (SparseCore.T d) none) Set.univ (hlo rfl op fun _ => .ret ⟨⟩) Q) := by
  have h := wp_hlo (defs := (K (F := F)).defs (D (F := F))) 𝒱 (SparseCore.T d) none Set.univ (Γ := .empty) (hp := rfl) (op := op) (k := fun _ => .ret ⟨⟩) (Q := Q)
    (q := fun _ => fullShare) (F := V) (fun _ _ => rfl) hf
  have h1 : x ∉ ({x', y} : Finset (DevRef τ sig)) := by simp [hxx, hxy]
  have h2 : x' ∉ ({y} : Finset (DevRef τ sig)) := by simp [hxy']
  rw [hb, SparseCore.bigSep_insert' h1, SparseCore.bigSep_insert' h2, bigSep_singleton, SparseCore.bigSep_insert' h1, SparseCore.bigSep_insert' h2, bigSep_singleton,
    op.result_of_not_mem V (b := x) (by rw [hw]; simpa using hxy), op.result_of_not_mem V (b := x') (by rw [hw]; simpa using hxy')] at h
  iintro H HQ
  iapply h $$ H
  iintro H
  iapply le_wp_ret
  iapply HQ
  iexact H

/-- The TensorCore call. -/
theorem wp_tcCall [∀ e, Nonempty (Elt F e)] (A : Dev nD → InBuf F) (B : Dev nD → TcBuf F) (lim : ℕ) (d : Dev nD) (Q : PUnit → sProp 𝕄) :
    iprop((iprop(boundary (SparseCore.T d) ∗ ((aLoc d ↦{fullShare} A d) ∗ (rLoc d ↦{fullShare} tcVal (A d))) ∗ idleOwes lim d) -∗ Q ⟨⟩)
        ∗ boundary (SparseCore.T d) ∗ (((aLoc d ↦{fullShare} A d) ∗ (rLoc d ↦{fullShare} B d)) ∗ idleOwes lim d)
        ∗ levAts (K (F := F)).L (K (F := F)).lev ∗ G d)
      ⊢ wp frame (wpE ((K (F := F)).defs (D (F := F))) 𝒱 (SparseCore.T d) none) Set.univ
          (Prog.lift (.customCall (SparseCore.inner (Pipeline.entry 0)) ())) Q := by
  change _ ⊢ wp frame (wpE ((K (F := F)).defs (D (F := F))) 𝒱 (SparseCore.T d) none) Set.univ
          (SparseCore.liftProg (.op (.customCall (Pipeline.entry 0) ()) .ret)) Q
  refine .trans ?_ ((K (F := F)).wp_liftProg (D (F := F)) 𝒱 (SparseCore.T d) Set.univ none _ _)
  refine .trans ?_ (Pipeline.RegionSeg.wp (pcfgs (F := F)) adm (pdats A B lim) none pin_inj EP defs₀ 𝒱₀ (K (F := F)).L (K (F := F)).lev (reg A B lim) d none
    (fun _ h => nomatch h) .ret Q)
  rw [show (reg A B lim).pre d = iprop(((aLoc d ↦{fullShare} A d) ∗ (rLoc d ↦{fullShare} B d)) ∗ idleOwes lim d) from rfl,
    show (reg A B lim).post d = iprop(((aLoc d ↦{fullShare} A d) ∗ (rLoc d ↦{fullShare} tcVal (A d))) ∗ idleOwes lim d) from rfl]
  unfold G
  iintro ⟨HQ, Hb, Hpre, Hl, Hg, Ht⟩
  isplitl [HQ]
  · iintro ⟨Hb, Hpost⟩
    iapply le_wp_ret
    iapply HQ
    isplitl [Hb]; · iexact Hb
    iexact Hpost
  isplitl [Hb]; · iexact Hb
  isplitl [Hpre]; · iexact Hpre
  isplitl [Hl]; · iexact Hl
  isplitl [Hg] <;> iassumption

/-! ## The values -/

/-- The input as the SparseCore call is given it, -/
def xIn (d : Dev nD) : XBuf F := shapeCast S8192x2048 (m (aLoc d) : InBuf F) shapeCasts_S4x2048x2048_S8192x2048
/-- the TensorCore call's results and the SparseCore call's, a row per batch, -/
def leftV (A : InBuf F) : S4x1536.Idx → Elt F .f32 := shapeCast S4x1536 (tcVal A) shapeCasts_S4x1x1536_S4x1536
def rightV (x : XBuf F) : S4x512.Idx → Elt F .f32 := shapeCast S4x512 (outVal x) shapeCasts_S2048_S4x512
/-- and the program's result. -/
def finalV (d : Dev nD) : S4x2048.Idx → Elt F .f32 :=
  concatenate S4x2048 1 [⟨S4x1536, leftV (m (aLoc d) : InBuf F)⟩, ⟨S4x512, rightV (xIn m d)⟩] concatenates_S4x1536_S4x512_S4x2048_d1

abbrev lLoc (d : Dev nD) : Loc nD τ sig := (SparseCore.T d).loc main_v3
abbrev gLoc (d : Dev nD) : Loc nD τ sig := (SparseCore.T d).loc main_v4
abbrev fLoc (d : Dev nD) : Loc nD τ sig := (SparseCore.T d).loc main_v5

/-- The input's reshape, -/
theorem wp_reshapeIn (d : Dev nD) (Q : PUnit → sProp 𝕄) :
    iprop(boundary (SparseCore.T d) ∗ (aLoc d ↦{fullShare} m (aLoc d)) ∗ (xLoc d ↦{fullShare} m (xLoc d)))
      ⊢ iprop(((boundary (SparseCore.T d) ∗ (aLoc d ↦{fullShare} m (aLoc d)) ∗ (xLoc d ↦{fullShare} xIn m d)) -∗ Q ⟨⟩)
        -∗ wp frame (wpE ((K (F := F)).defs (D (F := F))) 𝒱 (SparseCore.T d) none) Set.univ
          (hlo rfl (StableHlo.reshape main_arg0 main_v0 (rfl : (.f32 : EltTy) = .f32) shapeCasts_S4x2048x2048_S8192x2048) (fun _ => .ret ⟨⟩)) Q) := by
  have h := wp_two d (StableHlo.reshape main_arg0 main_v0 (rfl : (.f32 : EltTy) = .f32) shapeCasts_S4x2048x2048_S8192x2048) main_arg0 main_v0 (by decide) rfl rfl rfl
    (fun b => m (d, b)) Q
  rw [StableHlo.reshape_result] at h
  exact h

/-- and the two results', -/
theorem wp_reshapeTc (d : Dev nD) (A : TcBuf F) (Q : PUnit → sProp 𝕄) :
    iprop(boundary (SparseCore.T d) ∗ (rLoc d ↦{fullShare} A) ∗ (lLoc d ↦{fullShare} m (lLoc d)))
      ⊢ iprop(((boundary (SparseCore.T d) ∗ (rLoc d ↦{fullShare} A) ∗ (lLoc d ↦{fullShare} shapeCast S4x1536 A shapeCasts_S4x1x1536_S4x1536)) -∗ Q ⟨⟩)
        -∗ wp frame (wpE ((K (F := F)).defs (D (F := F))) 𝒱 (SparseCore.T d) none) Set.univ
          (hlo rfl (StableHlo.reshape main_v2 main_v3 (rfl : (.f32 : EltTy) = .f32) shapeCasts_S4x1x1536_S4x1536) (fun _ => .ret ⟨⟩)) Q) := by
  have h := wp_two d (StableHlo.reshape main_v2 main_v3 (rfl : (.f32 : EltTy) = .f32) shapeCasts_S4x1x1536_S4x1536) main_v2 main_v3 (by decide) rfl rfl rfl
    (Function.update (fun b => m (d, b)) (main_v2 : DevRef τ sig) A) Q
  rw [StableHlo.reshape_result, Function.update_self, Function.update_of_ne (by decide)] at h
  exact h
theorem wp_reshapeSc (d : Dev nD) (A : S2048.Idx → Elt F .f32) (Q : PUnit → sProp 𝕄) :
    iprop(boundary (SparseCore.T d) ∗ (oLoc d ↦{fullShare} A) ∗ (gLoc d ↦{fullShare} m (gLoc d)))
      ⊢ iprop(((boundary (SparseCore.T d) ∗ (oLoc d ↦{fullShare} A) ∗ (gLoc d ↦{fullShare} shapeCast S4x512 A shapeCasts_S2048_S4x512)) -∗ Q ⟨⟩)
        -∗ wp frame (wpE ((K (F := F)).defs (D (F := F))) 𝒱 (SparseCore.T d) none) Set.univ
          (hlo rfl (StableHlo.reshape main_v1 main_v4 (rfl : (.f32 : EltTy) = .f32) shapeCasts_S2048_S4x512) (fun _ => .ret ⟨⟩)) Q) := by
  have h := wp_two d (StableHlo.reshape main_v1 main_v4 (rfl : (.f32 : EltTy) = .f32) shapeCasts_S2048_S4x512) main_v1 main_v4 (by decide) rfl rfl rfl
    (Function.update (fun b => m (d, b)) (main_v1 : DevRef τ sig) A) Q
  rw [StableHlo.reshape_result, Function.update_self, Function.update_of_ne (by decide)] at h
  exact h

/-- The concatenation of the two along the columns. -/
abbrev catF (a : (⟨S4x1536, .f32⟩ : BufTy).Contents (Elt F)) (b : (⟨S4x512, .f32⟩ : BufTy).Contents (Elt F)) : (⟨S4x2048, .f32⟩ : BufTy).Contents (Elt F) :=
  concatenate S4x2048 1 [⟨S4x1536, a⟩, ⟨S4x512, b⟩] concatenates_S4x1536_S4x512_S4x2048_d1

/-- and their concatenation. -/
theorem wp_concat (d : Dev nD) (A : S4x1536.Idx → Elt F .f32) (B : S4x512.Idx → Elt F .f32) (Q : PUnit → sProp 𝕄) :
    iprop(boundary (SparseCore.T d) ∗ (lLoc d ↦{fullShare} A) ∗ (gLoc d ↦{fullShare} B) ∗ (fLoc d ↦{fullShare} m (fLoc d)))
      ⊢ iprop(((boundary (SparseCore.T d) ∗ (lLoc d ↦{fullShare} A) ∗ (gLoc d ↦{fullShare} B) ∗ (fLoc d ↦{fullShare} catF A B)) -∗ Q ⟨⟩)
        -∗ wp frame (wpE ((K (F := F)).defs (D (F := F))) 𝒱 (SparseCore.T d) none) Set.univ
          (hlo rfl (StableHlo.binary main_v3 main_v4 main_v5 (catF (F := F))) (fun _ => .ret ⟨⟩)) Q) := by
  have h := wp_three d (StableHlo.binary main_v3 main_v4 main_v5 (catF (F := F))) main_v3 main_v4 main_v5 (by decide) (by decide) (by decide) rfl rfl rfl
    (Function.update (Function.update (fun b => m (d, b)) (main_v3 : DevRef τ sig) A) (main_v4 : DevRef τ sig) B) Q
  rw [StableHlo.binary_result, Function.update_self, Function.update_of_ne (by decide), Function.update_self,
    Function.update_of_ne (by decide), Function.update_of_ne (by decide)] at h
  exact h

/-! ## @main -/

/-- The TensorCore's arrays, one by one. -/
theorem unscopedBufs_eq (d : Dev nD) (W : (b : Ref sig .tc) → Buf (Elt F) ((d.tc : Thread nD τ).loc b)) :
    (unscopedBufs d W : sProp 𝕄) = iprop((aLoc d ↦{fullShare} W main_arg0) ∗ (xLoc d ↦{fullShare} W main_v0) ∗ (oLoc d ↦{fullShare} W main_v1)
      ∗ (rLoc d ↦{fullShare} W main_v2) ∗ (lLoc d ↦{fullShare} W main_v3) ∗ (gLoc d ↦{fullShare} W main_v4) ∗ fLoc d ↦{fullShare} W main_v5) := by
  unfold unscopedBufs
  rw [show (Finset.univ.filter fun b : Ref sig .tc => ¬ b.isScoped) = {main_arg0, main_v0, main_v1, main_v2, main_v3, main_v4, main_v5} by decide,
    SparseCore.bigSep_insert' (by decide), SparseCore.bigSep_insert' (by decide), SparseCore.bigSep_insert' (by decide), SparseCore.bigSep_insert' (by decide),
    SparseCore.bigSep_insert' (by decide), SparseCore.bigSep_insert' (by decide), bigSep_singleton]

/-- What the SparseCore call is given, -/
theorem st_eq (d : Dev nD) : (bigSep Finset.univ fun c : Fin ((K (F := F)).nCore 0) => (P m (xIn m)).st 0 d c)
    = iprop((xLoc d ↦{fullShare} xIn m d) ∗ oLoc d ↦{fullShare} m (oLoc d)) :=
  (cores_deal (xIn m) d (m (oLoc d))).symm

/-- The barrier semaphores of both SparseCores' tasks. -/
abbrev barsAll (d : Dev nD) : sProp 𝕄 := bigSep Finset.univ fun c : Fin ((K (F := F)).nCore 0) => bars (F := F) d c

/-- and what it gives back. -/
theorem dn_eq (d : Dev nD) : (bigSep Finset.univ fun c : Fin ((K (F := F)).nCore 0) => (P m (xIn m)).dn 0 d c)
    = iprop(((xLoc d ↦{fullShare} xIn m d) ∗ oLoc d ↦{fullShare} outVal (xIn m d)) ∗ barsAll (F := F) d) :=
  (bigSep_sep' _ (fun c : Fin 2 => coreP (xIn m) d c (outVal (xIn m d))) (fun c : Fin 2 => bars (F := F) d c)).trans
    (congrArg (fun A : sProp 𝕄 => iprop(A ∗ barsAll (F := F) d)) (cores_deal (xIn m) d (outVal (xIn m d))).symm)

/-- After the call the TensorCore owes nothing. -/
theorem owed_none (d : Dev nD) : (K (F := F)).Otc d 1 = 0 := by
  unfold SparseCore.Cfg.Otc
  exact Finset.sum_eq_zero fun q _ => if_neg (by have := q.isLt; omega)

/-- What it holds of the handshakes after the call, what it owes apart. -/
theorem tcSt_one (d : Dev nD) : ∃ (lim : ℕ) (R : sProp 𝕄), (K (F := F)).tcSt EH d 1 = iprop(idleOwes lim d ∗ R) :=
  ⟨_, _, by unfold SparseCore.Cfg.tcSt; rw [owed_none]⟩

/-- What the TensorCore's run leaves for the end: the input, the result, and the barrier semaphores at zero. -/
abbrev FIN (d : Dev nD) : sProp 𝕄 := iprop((aLoc d ↦{fullShare} m (aLoc d)) ∗ (fLoc d ↦{fullShare} finalV m d) ∗ barsAll (F := F) d)

/-- @main on device `d`'s TensorCore. -/
theorem hmain [∀ e, Nonempty (Elt F e)] (κ : GSem nD τ sig → ℕ) (d : Dev nD) :
    iprop((K (F := F)).ctx EH (P m (xIn m)) κ ∗ (K (F := F)).tcSt EH d 0 ∗ (K (F := F)).tcRes m ρ d ∗ G d)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscopedBufs_eq]
  simp only [main, wp_bind, wp_pure]
  iintro ⟨#Hctx, Hst, ⟨Hb, ⟨Ha, Hx, Ho, Hr, Hl, Hg, Hf⟩, Hts, -⟩, HG⟩
  iapply (wp_reshapeIn m d _) $$ [Hb Ha Hx]
  · isplitl [Hb]; · iexact Hb
    isplitl [Ha] <;> iassumption
  iintro ⟨Hb, Ha, Hx⟩
  iapply ((K (F := F)).wp_run (D (F := F)) 𝒱 (EH := EH) (P := P m (xIn m)) κ d 0)
  isplitr; · iexact Hctx
  isplitl [Hst]; · iexact Hst
  isplitl [Hx Ho]
  · rw [st_eq]
    isplitl [Hx]; · iexact Hx
    iexact Ho
  iintro ⟨Hst, Hdn⟩
  ihave Hdn' := (Entails.of_eq (dn_eq m d)) $$ Hdn
  icases Hdn' with ⟨⟨Hx, Ho⟩, Hbars⟩
  obtain ⟨lim, R, hst⟩ := tcSt_one (F := F) d
  ihave Hst' := (show iprop((K (F := F)).tcSt EH d ((0 : Fin 1).val + 1)) ⊢ iprop(idleOwes lim d ∗ R) from Entails.of_eq hst) $$ Hst
  icases Hst' with ⟨Howes, Hst⟩
  iapply (wp_tcCall (fun d => m (aLoc d)) (fun d => m (rLoc d)) lim d _)
  isplitl [Hts Hx Ho Hbars Hst Hl Hg Hf]
  swap
  · isplitl [Hb]; · iexact Hb
    isplitl [Ha Hr Howes]
    · isplitl [Ha Hr]
      · isplitl [Ha] <;> iassumption
      iexact Howes
    isplitr
    · iapply (SparseCore.Cfg.ctx_levAts κ) $$ Hctx
    iexact HG
  iintro ⟨Hb, ⟨Ha, Hr⟩, Howes⟩
  iapply (wp_reshapeTc m d _ _) $$ [Hb Hr Hl]
  · isplitl [Hb]; · iexact Hb
    isplitl [Hr] <;> iassumption
  iintro ⟨Hb, Hr, Hl⟩
  iapply (wp_reshapeSc m d _ _) $$ [Hb Ho Hg]
  · isplitl [Hb]; · iexact Hb
    isplitl [Ho] <;> iassumption
  iintro ⟨Hb, Ho, Hg⟩
  iapply (wp_concat m d _ _ _) $$ [Hb Hl Hg Hf]
  · isplitl [Hb]; · iexact Hb
    isplitl [Hl]; · iexact Hl
    isplitl [Hg] <;> iassumption
  iintro ⟨Hb, Hl, Hg, Hf⟩
  imodintro
  isplitl [Howes Hst]
  · iapply (Entails.of_eq hst.symm)
    isplitl [Howes] <;> iassumption
  isplitl [Ha Hf Hbars]
  · isplitl [Ha]; · iexact Ha
    isplitl [Hf]; · iexact Hf
    iexact Hbars
  isplitl [Hb] <;> iassumption

/-! ## The launch and the runs -/

/-- What the end state is read for: the input unchanged, the result, the barrier semaphores at zero. -/
def fq (d : Dev nD) (s' : Phys nD τ sig (Elt F)) : Prop :=
  s'.mem.mem (aLoc d) = m (aLoc d) ∧ s'.mem.mem (fLoc d) = finalV m d
    ∧ ∀ (c : Fin ((K (F := F)).nCore 0)) (i : Fin ((K (F := F)).nSub 0)), s'.mem.sem (bcell d (coreOf (F := F) c) ((K (F := F)).sub 0 i)) = 0

/-- A buffer held whole reads what it is held at. -/
theorem read_held (ℓ : Loc nD τ sig) (f : Buf (Elt F) ℓ) (s' : Phys nD τ sig (Elt F)) : iprop((ℓ ↦{fullShare} f) ∗ SI s') ⊢ (⌜s'.mem.mem ℓ = f⌝ : sProp 𝕄) := by
  iintro ⟨Hx, HSI⟩
  ihave H := (SI_pointsTo_agree (st := s') (ℓ := ℓ) (I := Finset.univ) (q := fullShare) (f := f)) $$ [HSI Hx]
  · isplitl [HSI] <;> iassumption
  icases H with %hx
  ipureintro; exact funext fun i => hx i (Finset.mem_univ i)

theorem hfin (d : Dev nD) (s' : Phys nD τ sig (Elt F)) : iprop(FIN m d ∗ SI s') ⊢ (⌜fq m d s'⌝ : sProp 𝕄) :=
  fun x hx => ⟨((sep_mono_left sep_elim_left).trans (read_held _ _ s')) x hx,
    ((sep_mono_left (sep_elim_right.trans sep_elim_left)).trans (read_held _ _ s')) x hx, fun c i =>
    ((sep_mono_left (sep_elim_right.trans (sep_elim_right.trans ((SparseCore.ent (bigSep_elim (Finset.mem_univ c))).trans
      (SparseCore.ent (bigSep_elim (Finset.mem_univ i))))))).trans (SparseCore.Cfg.semVal_zero_read _ s')) x hx⟩

/-- The cells taken at the launch end at zero. -/
theorem hA (s' : Phys nD τ sig (Elt F)) (h : ∀ d, fq m d s') (g : GSem nD τ sig) (hg : g ∈ bCells) : s'.mem.sem g = 0 := by
  obtain ⟨⟨d, c, i⟩, -, rfl⟩ := Finset.mem_image.mp hg
  exact (h d).2.2 c ⟨i.val, i.isLt⟩

/-- What a run ends with: the input unchanged, the result, every semaphore at zero. -/
def QC : PUnit × MemSt nD τ sig (Elt F) → Prop := fun r =>
  (∀ d : Dev nD, r.2.mem (aLoc d) = m (aLoc d) ∧ r.2.mem (fLoc d) = finalV m d) ∧ r.2.sem = fun _ => 0

theorem run_main [∀ e, Nonempty (Elt F e)] : θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m (xIn m)) (hA := hA m) facts v₀
    (fun q hq => match q with | 0 => nomatch hq)
    (fun q _ => match q with | 0 => tileObl m (xIn m) facts)
    (fun q _ => match q with | 0 => vecSplit m (xIn m))
    m ρ main (fun d => G d) (FIN m) (u₀ (F := F)) (hu₀ m (xIn m)) (hmain m ρ) (fq m) (hfin m) (QC m) (fun _ h hz => ⟨fun d => ⟨(h d).1, (h d).2.1⟩, hz⟩)

end Cert.Proof.Pool

end
-- ==== Proof.Frames.lean ====
/-
  The runs of the three programs, read at what their frames state: they terminate with the input unchanged and every
  semaphore at zero.
-/
module

public import proofs.«01_k».proof.Defs
public import proofs.«01_k».proof.Proof.Gen.Kernel
public import proofs.«01_k».proof.Proof.Gen.ReferenceIdeal
public import proofs.«01_k».proof.Proof.Gen.ReferenceIdeal.Run
public import proofs.«01_k».proof.Proof.Main
public import Idealize.ShloMosaic.Adequacy
public import Idealize.ShloMosaic.Init

@[expose] public section

noncomputable section

namespace Cert.Proof

open Idealize.ShloMosaic Idealize.SL.Sem

/-- The kernel's program and its reading at exact reals have the same bodies: on each processor, label by label, -/
theorem defs₀_eq : Cert.KernelIdeal.defs₀ (F := Bits) = Cert.Kernel.defs₀ (F := Bits) := by
  funext p l a
  match p, l, a with
  | .tc, ⟨0, _⟩, _ => rfl
  | .tc, ⟨1, _⟩, (_, _) => rfl
  | .scScalar _, ⟨0, _⟩, _ => rfl
  | .scScalar _, ⟨1, _⟩, _ => rfl
  | .scVector _ _, ⟨0, _⟩, _ => rfl
  | .scVector _ _, ⟨1, _⟩, _ => rfl

/-- and so the same body table. -/
theorem defs_eq : Cert.KernelIdeal.defs (F := Bits) = Cert.Kernel.defs (F := Bits) :=
  congrArg (fun D => Cert.KernelIdeal.sc.defs (Pipeline.defs Cert.KernelIdeal.pcfgs D)) defs₀_eq

/-- The kernel's program at machine floats: it leaves its input unchanged and its semaphores at zero. -/
theorem frame_kernel : Cert.quiescent_Kernel := fun m ρ _ =>
  have h := (θ_run (Cert.KernelIdeal.defs (F := Bits)) Cert.KernelIdeal.threads _).mono (Q := Pool.QC (F := Bits) m) (Q' := fun r => (∀ c : Dev Cert.KernelIdeal.nD,
      r.2.mem (c.tc.loc Cert.KernelIdeal.main_arg0) = m (c.tc.loc Cert.KernelIdeal.main_arg0)) ∧ r.2.sem = fun _ => 0)
    (fun _ h => ⟨fun c => (h.1 c).1, h.2⟩) (Pool.run_main (F := Bits) m ρ)
  (congrArg (fun D => θ_run D Cert.KernelIdeal.threads _ _) defs_eq).mp h

/-- The same at exact reals. -/
theorem frame_kernelIdeal : Cert.quiescent_KernelIdeal := fun m ρ _ =>
  (θ_run Cert.KernelIdeal.defs _ _).mono (fun _ h => ⟨fun c => (h.1 c).1, h.2⟩) (Pool.run_main (F := Ideal) m ρ)

/-- The reference leaves its input unchanged; it has no semaphore. -/
theorem frame_referenceIdeal : Cert.quiescent_ReferenceIdeal := fun m ρ _ =>
  (θ_run Cert.ReferenceIdeal.defs _ _).mono (fun r h => ⟨fun c => (h c).2, Idealize.ShloMosaic.sem_eq_zero_of_no_sems (by decide) r.2⟩)
    (Cert.ReferenceIdeal.Value.run (F := Ideal) m ρ)

end Cert.Proof

end
-- ==== Proof.Pooling.lean ====
/-
  The problem's mathematics on one column of 2048 extended reals: the weighted sum by softmax weights of the clipped values is
  the quotient of two sums whose weights are taken from 20, the largest value a clipped entry has. No entry need be finite: a
  clipped entry always is, so every weight is a positive real.
-/
module

public import Idealize.ShloMosaic.PureOps.Ideal
public import Idealize.ShloMosaic.PureOps.Ideal.Laws
public import Idealize.ShloMosaic.Lib.IdealHost

@[expose] public section

noncomputable section

namespace Cert.Proof.Pooling

open Idealize.ShloMosaic

/-- An entry clipped to [-20, 20], -/
def clip (x : EReal) : EReal := min (20 : ℝ) (max (-20 : ℝ) x)
/-- its weight, -/
def wt (x : EReal) : EReal := Ideal.exp (clip x - (20 : ℝ))
/-- the quotient of the weighted sum and the weights' sum, -/
def pooled {n : ℕ} (X : Fin n → EReal) : EReal := Ideal.div (∑ k, wt (X k) * X k) (∑ k, wt (X k))
/-- the clipped entries' maximum, -/
def top {n : ℕ} (X : Fin n → EReal) : EReal := max ⊥ (Finset.univ.fold max ⊥ fun k => clip (X k))
/-- and the sum of the entries by their softmax weights. -/
def soft {n : ℕ} (X : Fin n → EReal) : EReal :=
  ∑ k, Ideal.div (Ideal.exp (clip (X k) - top X)) (∑ j, Ideal.exp (clip (X j) - top X)) * X k

/-! ## The bounds' float words -/

theorem ofBits_20 : Ideal.ofBits .f32 0x41A00000#32 = ((20 : ℝ) : EReal) := by
  simp [Ideal.ofBits, Ideal.ieee, -EReal.coe_mul]; norm_num
theorem ofBits_neg20 : Ideal.ofBits .f32 0xC1A00000#32 = ((-20 : ℝ) : EReal) := by
  simp [Ideal.ofBits, Ideal.ieee, -EReal.coe_mul]; norm_num

/-! ## Clipped entries are real -/

theorem clip_le (x : EReal) : clip x ≤ (20 : ℝ) := min_le_left _ _
theorem le_clip (x : EReal) : ((-20 : ℝ) : EReal) ≤ clip x := le_min (by exact_mod_cast (by norm_num : (-20 : ℝ) ≤ 20)) (le_max_left _ _)

/-- Between -20 and 20 there are only real numbers. -/
theorem real_of_bounds {y : EReal} (h₁ : ((-20 : ℝ) : EReal) ≤ y) (h₂ : y ≤ (20 : ℝ)) : ∃ r : ℝ, y = r := by
  induction y with
  | bot => exact absurd h₁ (not_le.mpr (EReal.bot_lt_coe _))
  | top => exact absurd h₂ (not_le.mpr (EReal.coe_lt_top _))
  | coe r => exact ⟨r, rfl⟩

theorem exists_clip (x : EReal) : ∃ r : ℝ, clip x = r := real_of_bounds (le_clip x) (clip_le x)

/-- The maximum of the clipped entries of a column that has one is real. -/
theorem exists_top {n : ℕ} (hn : 0 < n) (X : Fin n → EReal) : ∃ r : ℝ, top X = r := by
  refine real_of_bounds ?_ ?_
  · exact le_max_of_le_right ((Finset.le_fold_max _).mpr (.inr ⟨⟨0, hn⟩, Finset.mem_univ _, le_clip _⟩))
  · exact max_le bot_le ((Finset.fold_max_le _).mpr ⟨bot_le, fun k _ => clip_le _⟩)

/-! ## Sums -/

/-- A sum of reals is the real sum. -/
theorem coe_sum {ι : Type} (s : Finset ι) (f : ι → ℝ) : ∑ i ∈ s, (f i : EReal) = ((∑ i ∈ s, f i : ℝ) : EReal) :=
  (map_sum (⟨⟨((↑) : ℝ → EReal), EReal.coe_zero⟩, EReal.coe_add⟩ : ℝ →+ EReal) f s).symm

/-- A factor that is real and not negative comes out of a sum of extended reals. -/
theorem mul_sum_of_nonneg {ι : Type} (s : Finset ι) (f : ι → EReal) {c : ℝ} (hc : 0 ≤ c) : ∑ i ∈ s, (c : EReal) * f i = (c : EReal) * ∑ i ∈ s, f i := by
  classical
  induction s using Finset.induction_on with
  | empty => simp
  | insert a s ha ih =>
    rw [Finset.sum_insert ha, Finset.sum_insert ha, ih,
      EReal.left_distrib_of_nonneg_of_ne_top (EReal.coe_nonneg.mpr hc) (EReal.coe_ne_top c)]

/-- Dividing by a real that is not zero is multiplying by its inverse. -/
theorem div_coe (x : EReal) {c : ℝ} (hc : c ≠ 0) : Ideal.div x c = x * ((c⁻¹ : ℝ) : EReal) := by
  unfold Ideal.div
  rw [if_neg (by exact_mod_cast hc), EReal.coe_inv]

/-! ## The two forms agree -/

/-- The weighted sum over a column by its softmax weights is the quotient of the two sums with weights from 20. -/
theorem soft_eq_pooled {n : ℕ} (hn : 0 < n) (X : Fin n → EReal) : soft X = pooled X := by
  choose y hy using fun k => exists_clip (X k)
  obtain ⟨M, hM⟩ := exists_top hn X
  have hs : ∀ k, Ideal.exp (clip (X k) - top X) = ((Real.exp (y k - M) : ℝ) : EReal) := fun k => by
    rw [hy, hM, ← EReal.coe_sub, Ideal.exp_coe]
  have hw : ∀ k, wt (X k) = ((Real.exp (y k - 20) : ℝ) : EReal) := fun k => by
    unfold wt
    rw [hy, ← EReal.coe_sub, Ideal.exp_coe]
  have ne : Nonempty (Fin n) := ⟨⟨0, hn⟩⟩
  have pos : ∀ c : ℝ, 0 < ∑ k, Real.exp (y k - c) := fun c => Finset.sum_pos (fun k _ => Real.exp_pos _) Finset.univ_nonempty
  unfold soft pooled
  simp only [hs, hw, coe_sum]
  rw [div_coe _ (pos 20).ne', mul_comm, ← mul_sum_of_nonneg _ _ (inv_nonneg.mpr (pos 20).le)]
  refine Finset.sum_congr rfl fun k _ => ?_
  rw [div_coe _ (pos M).ne', ← mul_assoc, ← EReal.coe_mul, ← EReal.coe_mul]
  congr 2
  have h : ∀ c, ∑ j, Real.exp (y j - c) = (∑ j, Real.exp (y j)) * Real.exp (-c) := fun c => by
    rw [Finset.sum_mul]; exact Finset.sum_congr rfl fun j _ => by rw [← Real.exp_add, sub_eq_add_neg]
  rw [h, h, sub_eq_add_neg, sub_eq_add_neg, Real.exp_add, Real.exp_add]
  have hE : ∑ j, Real.exp (y j) ≠ 0 := (Finset.sum_pos (fun k _ => Real.exp_pos _) Finset.univ_nonempty).ne'
  field_simp

end Cert.Proof.Pooling

end
-- ==== Proof.ScValue.lean ====
/-
  What the SparseCore call computes at exact reals: the pools of the columns from 1536 on. A task's running sums are sums over its
  256 rows, the eight tasks' sums together the sum over a batch's 2048 rows.
-/
module

public import proofs.«01_k».proof.Proof.Values
public import proofs.«01_k».proof.Proof.Pooling
public import Idealize.ShloMosaic.Lib.Pipeline.Value

@[expose] public section

noncomputable section

namespace Cert.Proof.Pool

open Cert.KernelIdeal Cert.KernelIdeal.Gen
open Idealize.ShloMosaic
open Idealize.ShloMosaic.ValueIdx
open Cert.Proof.Pooling

/-! ## Where a task reads -/

/-- The first row and column of a task's block, as the kernel computes them. -/
theorem off_eq : ∀ (c k : Fin 2) (i : Fin 8) (b : Fin 4),
    k0_off1 (coordsV c (tileNo k i)) (BitVec.ofNat 32 (2048 * b.val)) = ![2048 * b.val + 256 * i.val, 1536 + 128 * (2 * c.val + k.val)] := by
  decide +kernel

/-- A row loop's trips are the rows in order. -/
theorem rowNo_eq : ∀ t : Fin k0_t1_loop.trips, (rowNo t).toNat = t.val := by decide +kernel
theorem trips_eq : k0_t1_loop.trips = 256 := by decide +kernel

/-- A task's block, entry by entry. -/
theorem blk_apply (x : XBuf Ideal) (c k : Fin 2) (i : Fin 8) (b : Fin 4) (r : Fin 256) (l : Fin 128) :
    blk x (coordsV c (tileNo k i)) b (ix2 r l)
      = x (ix2 (⟨2048 * b.val + 256 * i.val + r.val, by omega⟩ : Fin 8192) (⟨1536 + 128 * (2 * c.val + k.val) + l.val, by omega⟩ : Fin 2048)) := by
  refine congrArg x (funext fun a => Fin.ext ?_)
  have h := congrFun (off_eq c k i b)
  match a with
  | ⟨0, _⟩ =>
    show k0_off1 (coordsV c (tileNo k i)) (BitVec.ofNat 32 (2048 * b.val)) 0 + 1 * r.val = _
    rw [h 0, one_mul]; rfl
  | ⟨1, _⟩ =>
    show k0_off1 (coordsV c (tileNo k i)) (BitVec.ofNat 32 (2048 * b.val)) 1 + 1 * l.val = _
    rw [h 1, one_mul]; rfl

/-- A row's lanes, entry by entry. -/
theorem rowV_apply (B : Blk Ideal) (t : Fin k0_t1_loop.trips) (g : Fin 8) (l : Fin 16) :
    lanes (rowV B t g) (ix1 l) = B (ix2 (⟨t.val, trips_eq ▸ t.isLt⟩ : Fin 256) (⟨16 * g.val + l.val, by omega⟩ : Fin 128)) := by
  unfold lanes
  rw [shapeCast_apply (rowV B t g) _ (ix1 l) (ix2 (0 : Fin 1) l) (by rw [Shape.rowMajor_val_one, Shape.rowMajor_val_two]; simp)]
  refine congrArg B (funext fun a => Fin.ext ?_)
  match a with
  | ⟨0, _⟩ =>
    show (rowNo t).toNat + 1 * 0 = t.val
    rw [rowNo_eq]; rfl
  | ⟨1, _⟩ =>
    show 16 * g.val + 1 * l.val = _
    rw [one_mul]

/-! ## The sums -/

/-- A lane's weight is its entry's. -/
theorem weight_apply (v : FVec Ideal S16 .f32) (i : S16.Idx) : weight v i = wt (v i) := by
  unfold wt clip
  rw [← ofBits_20, ← ofBits_neg20, min_comm, max_comm]
  rfl

theorem zero16_apply (i : S16.Idx) : (zero16 : FVec Ideal S16 .f32) i = (0 : EReal) := Ideal.ofBits_zero_f32

/-- The running sum of weights after `n` rows. -/
theorem accS_apply (B : Blk Ideal) (g : Fin 8) (l : Fin 16) (n : ℕ) (hn : n ≤ 256) :
    accS B g n (ix1 l) = ∑ t : Fin n, wt (B (ix2 (⟨t.val, by omega⟩ : Fin 256) (⟨16 * g.val + l.val, by omega⟩ : Fin 128))) := by
  induction n with
  | zero => exact zero16_apply _
  | succ n ih =>
    have ht : n < k0_t1_loop.trips := by rw [trips_eq]; omega
    rw [accS_step B g ⟨n, ht⟩, Fin.sum_univ_castSucc]
    exact congrArg₂ (· + ·) (ih (by omega)) ((weight_apply _ _).trans (congrArg wt (rowV_apply B ⟨n, ht⟩ g l)))

/-- The running sum of weighted entries after `n` rows. -/
theorem accW_apply (B : Blk Ideal) (g : Fin 8) (l : Fin 16) (n : ℕ) (hn : n ≤ 256) :
    accW B g n (ix1 l) = ∑ t : Fin n, wt (B (ix2 (⟨t.val, by omega⟩ : Fin 256) (⟨16 * g.val + l.val, by omega⟩ : Fin 128)))
      * B (ix2 (⟨t.val, by omega⟩ : Fin 256) (⟨16 * g.val + l.val, by omega⟩ : Fin 128)) := by
  induction n with
  | zero => exact zero16_apply _
  | succ n ih =>
    have ht : n < k0_t1_loop.trips := by rw [trips_eq]; omega
    rw [accW_step B g ⟨n, ht⟩, Fin.sum_univ_castSucc]
    exact congrArg₂ (· + ·) (ih (by omega)) (congrArg (fun v => wt v * v) (rowV_apply B ⟨n, ht⟩ g l) ▸
      congrArg (· * _) (weight_apply (lanes (rowV B ⟨n, ht⟩ g)) (ix1 l)))

/-- The sum over the first `n + 1` tasks. -/
theorem total_apply (f : Fin 8 → FVec Ideal S16 .f32) (i : S16.Idx) (n : ℕ) (hn : n < 8) :
    total f n i = ∑ k : Fin (n + 1), (f ⟨k.val, by omega⟩ i : EReal) := by
  induction n with
  | zero => rw [Fin.sum_univ_one]; rfl
  | succ n ih =>
    rw [Fin.sum_univ_castSucc]
    unfold total
    rw [dif_pos hn]
    exact congrArg₂ (· + ·) (ih (by omega)) rfl

/-- Eight runs of 256 rows are 2048 rows. -/
theorem sum_tasks (f : Fin 2048 → EReal) : ∑ i : Fin 8, ∑ t : Fin 256, f ⟨256 * i.val + t.val, by omega⟩ = ∑ k, f k := by
  rw [← Fintype.sum_prod_type', ← (finProdFinEquiv (m := 8) (n := 256)).sum_comp]
  exact Finset.sum_congr rfl fun p _ => congrArg f (Fin.ext (by show 256 * p.1.val + p.2.val = p.2.val + 256 * p.1.val; omega))

/-! ## The results -/

/-- The results of eight tasks: columns, pooled. -/
theorem quotV_apply (x : XBuf Ideal) (c k : Fin 2) (b : Fin 4) (g : Fin 8) (l : Fin 16) :
    quotV x c k b g (ix1 l) = pooled fun r : Fin 2048 =>
      x (ix2 (⟨2048 * b.val + r.val, by omega⟩ : Fin 8192) (⟨1536 + 128 * (2 * c.val + k.val) + (16 * g.val + l.val), by omega⟩ : Fin 2048)) := by
  unfold pooled quotV
  have hS : ∀ B : Blk Ideal, sumV B (cS g) = accS B g k0_t1_loop.trips := fun B => dif_pos g.isLt
  have hW : ∀ B : Blk Ideal, sumV B (cW g) = accW B g k0_t1_loop.trips := fun B =>
    (dif_neg (by show ¬ 8 + g.val < 8; omega)).trans (congrArg (fun g => accW B g _) (Fin.ext (by show 8 + g.val - 8 = g.val; omega)))
  refine congrArg₂ Ideal.div ?_ ?_
  · rw [total_apply _ _ 7 (by omega), ← sum_tasks]
    refine Finset.sum_congr rfl fun i _ => ?_
    rw [hW, trips_eq, accW_apply _ _ _ _ le_rfl]
    refine Finset.sum_congr rfl fun t _ => ?_
    rw [blk_apply]
    simp only [Nat.add_assoc]
  · rw [total_apply _ _ 7 (by omega), ← sum_tasks]
    refine Finset.sum_congr rfl fun i _ => ?_
    rw [hS, trips_eq, accS_apply _ _ _ _ le_rfl]
    refine Finset.sum_congr rfl fun t _ => ?_
    rw [blk_apply]
    simp only [Nat.add_assoc]

/-- Result `q` of batch `b`: column `1536 + q` of the batch's rows, pooled. -/
theorem outVal_apply (x : XBuf Ideal) (b : Fin 4) (q : Fin 512) :
    outVal x (ix1 (⟨512 * b.val + q.val, by omega⟩ : Fin 2048)) = pooled fun r : Fin 2048 =>
      x (ix2 (⟨2048 * b.val + r.val, by omega⟩ : Fin 8192) (⟨1536 + q.val, by omega⟩ : Fin 2048)) := by
  refine (quotV_apply x _ _ _ _ _).trans ?_
  refine congrArg pooled (funext fun r => congrArg x (funext fun a => Fin.ext ?_))
  match a with
  | ⟨0, _⟩ => show 2048 * ((512 * b.val + q.val) / 512) + r.val = 2048 * b.val + r.val; omega
  | ⟨1, _⟩ =>
    show 1536 + 128 * (2 * ((512 * b.val + q.val) % 512 / 256) + (512 * b.val + q.val) % 256 / 128)
      + (16 * ((512 * b.val + q.val) % 128 / 16) + (512 * b.val + q.val) % 128 % 16) = 1536 + q.val
    omega

end Cert.Proof.Pool

end
-- ==== Proof.TcValue.lean ====
/-
  What the TensorCore call's body computes at exact reals: each column of the batch, pooled.
-/
module

public import proofs.«01_k».proof.Proof.Gen.KernelIdeal.Skeleton
public import proofs.«01_k».proof.Proof.Pooling
public import Idealize.ShloMosaic.Lib.Pointwise.Tactic
public import Idealize.ShloMosaic.Lib.Pointwise.Reduce
public import Idealize.ShloMosaic.Lib.Pointwise.Reshape

@[expose] public section

set_option maxRecDepth 16384

noncomputable section

namespace Cert.Proof.TcValue

open Cert.KernelIdeal Cert.KernelIdeal.Gen
open Idealize.ShloMosaic
open Cert.Proof.Pooling

/-- Column `j` of what the body computes from a batch is that column, pooled. -/
theorem pay_apply (v : Vec Ideal S1x2048x1536 .f32) (j : Fin 1536) : k1_pay1 v (ix3 0 0 j) = pooled fun k : Fin 2048 => v (ix3 0 k j) := by
  unfold pooled wt clip
  rw [← ofBits_20, ← ofBits_neg20]
  pointwise [k1_pay1]

end Cert.Proof.TcValue

end
-- ==== Proof.RefValue.lean ====
/-
  The reference's result at an index: a batch's column, pooled.
-/
module

public import proofs.«01_k».proof.Proof.Gen.ReferenceIdeal.Run
public import proofs.«01_k».proof.Proof.Pooling
public import Idealize.ShloMosaic.Lib.Pointwise.Tactic
public import Idealize.ShloMosaic.Lib.Pointwise.Reduce

@[expose] public section

noncomputable section

namespace Cert.Proof.RefValue

open Cert.ReferenceIdeal Cert.ReferenceIdeal.Gen
open Idealize.ShloMosaic
open Cert.Proof.Pooling

/-- An array of four batches, -/
abbrev Arr : Type := FVec Ideal S4x2048x2048 .f32

/-- its entries clipped, -/
def clipA (A : Arr) : Arr :=
  minimumf (broadcastInDim S4x2048x2048 ![] bcast_S_S4x2048x2048 (id (constant S_ .f32 0x41A00000#32))) (maximumf (broadcastInDim S4x2048x2048 ![] bcast_S_S4x2048x2048 (id (constant S_ .f32 0xC1A00000#32))) A)
/-- the maximum of each column of clipped entries, -/
def topA (C : Arr) : FVec Ideal S4x2048 .f32 :=
  maximumf (broadcastInDim S4x2048 ![] bcast_S_S4x2048 (constant S_ .f32 0xFF800000#32)) (Host.reduce FloatOps.maximumf C (constant S_ .f32 0xFF800000#32) reducesTo_S4x2048x2048_S4x2048_d1 h_S_)
/-- a row per column, repeated down the column, -/
def downA (T : FVec Ideal S4x2048 .f32) : Arr :=
  broadcastInDim S4x2048x2048 ![0, 1, 2] bcast_S4x1x2048_S4x2048x2048_0_1_2 (broadcastInDim S4x1x2048 ![0, 2] bcast_S4x2048_S4x1x2048_0_2 T)
/-- the exponentials, -/
def expA (C : Arr) : Arr := Host.exp (subf C (downA (topA C)))
/-- a sum down each column, -/
def sumA (C : Arr) : FVec Ideal S4x2048 .f32 := Host.reduceAdd C (constant S_ .f32 0x00000000#32) reducesTo_S4x2048x2048_S4x2048_d1 h_S_
/-- and the reference's result. -/
def refA (A : Arr) : FVec Ideal S4x2048 .f32 := sumA (mulf (Host.divf (expA (clipA A)) (downA (sumA (expA (clipA A))))) A)

theorem ofBits_bot : Ideal.ofBits .f32 0xFF800000#32 = ⊥ := by
  simp [Ideal.ofBits, Ideal.ieee]

theorem clipA_apply (A : Arr) (i : S4x2048x2048.Idx) : clipA A i = clip (A i) := by
  unfold clip
  rw [← ofBits_20, ← ofBits_neg20]
  rfl

/-- A maximum down each column of an array, from an initial value. -/
theorem reduceMax_apply (h : S4x2048x2048.ReducesTo [1] S4x2048) (C : Arr) (z : FVec Ideal S_ .f32) (hu : 0 < S_.numel) (b : Fin 4) (j : Fin 2048) :
    Host.reduce (FloatOps.maximumf (F := Ideal) (φ := .f32)) C z h hu (ix2 b j) = Finset.univ.fold max (z (Shape.Idx.first hu)) fun k => C (ix3 b k j) :=
  (Host.reduce_eq_fold _ _ _ _ _ _).trans (Shape.ReducesTo.fold_fiber_r3_a1 h (ix2 b j) _ _ _)

/-- The initial value of a maximum, at its only index. -/
theorem bot_apply (i : S_.Idx) : (constant S_ .f32 0xFF800000#32 : FVec Ideal S_ .f32) i = (⊥ : EReal) := ofBits_bot

/-- The maximum of an array and that value. -/
theorem max_bot_apply (R : FVec Ideal S4x2048 .f32) (i : S4x2048.Idx) :
    maximumf (broadcastInDim S4x2048 ![] bcast_S_S4x2048 (constant S_ .f32 0xFF800000#32)) R i = max ⊥ (R i) := by
  rw [← ofBits_bot]
  rfl

theorem topA_apply (C : Arr) (b : Fin 4) (j : Fin 2048) : topA C (ix2 b j) = max ⊥ (Finset.univ.fold max ⊥ fun k => C (ix3 b k j)) := by
  unfold topA
  rw [max_bot_apply, reduceMax_apply, bot_apply]

theorem downA_apply (T : FVec Ideal S4x2048 .f32) (b : Fin 4) (k j : Fin 2048) : downA T (ix3 b k j) = T (ix2 b j) := by
  unfold downA
  pointwise

/-- The initial value of a sum, at its only index. -/
theorem zero_apply (i : S_.Idx) : (constant S_ .f32 0x00000000#32 : FVec Ideal S_ .f32) i = (0 : EReal) := Ideal.ofBits_zero_f32

theorem sumA_apply (C : Arr) (b : Fin 4) (j : Fin 2048) : sumA C (ix2 b j) = ∑ k, C (ix3 b k j) := by
  exact (ValueIdx.hostReduceAdd_apply C _ _ _ _).trans ((Ideal.hostReduceAdd_r3_a1 reducesTo_S4x2048x2048_S4x2048_d1 C _ (ix2 b j)).trans
    ((congrArg (· + _) (zero_apply _)).trans (zero_add _)))

theorem expA_apply (C : Arr) (b : Fin 4) (k j : Fin 2048) : expA C (ix3 b k j) = Ideal.exp (C (ix3 b k j) - topA C (ix2 b j)) := by
  rw [← downA_apply (topA C) b k j]; rfl

/-- The reference's result is each batch's columns, pooled. -/
theorem refA_apply (A : Arr) (b : Fin 4) (j : Fin 2048) : refA A (ix2 b j) = pooled fun k => A (ix3 b k j) := by
  rw [← soft_eq_pooled (by decide)]
  unfold refA soft top
  rw [sumA_apply]
  refine Finset.sum_congr rfl fun k _ => ?_
  rw [show ∀ P Q R : Arr, ∀ i, mulf (Host.divf P Q) R i = Ideal.div (P i) (Q i) * R i from fun _ _ _ _ => rfl, downA_apply, sumA_apply]
  simp only [expA_apply, topA_apply, clipA_apply]

end Cert.Proof.RefValue

end
-- ==== Proof.Equal.lean ====
/-
  The kernel's result and the reference's, at exact reals: both are the input's columns, pooled, batch by batch.
-/
module

public import proofs.«01_k».proof.Defs
public import proofs.«01_k».proof.Proof.Main
public import proofs.«01_k».proof.Proof.ScValue
public import proofs.«01_k».proof.Proof.TcValue
public import proofs.«01_k».proof.Proof.RefValue
public import Idealize.ShloMosaic.Lib.Pipeline.Value

@[expose] public section

noncomputable section

namespace Cert.Proof.Pool

open Cert.KernelIdeal Cert.KernelIdeal.Gen
open Idealize.ShloMosaic hiding ix1 ix2 ix3 eq_ix2
open Idealize.ShloMosaic.ValueIdx
open Idealize.SL Idealize.SL.Sem
open Cert.Proof.Pooling

/-- Column `j` of the TensorCore call's results, for batch `b`. -/
theorem leftV_apply (A : InBuf Ideal) (b : Fin 4) (j : Fin 1536) :
    leftV A (ix2 b j) = pooled fun k : Fin 2048 => A (ix3 b k (⟨j.val, by omega⟩ : Fin 2048)) := by
  unfold leftV
  rw [shapeCast_apply (tcVal A) _ (ix2 b j) (ix3 b (0 : Fin 1) j) (by rw [Shape.rowMajor_val_two, Shape.rowMajor_val_three]; simp)]
  exact TcValue.pay_apply (batchV A b) j

/-- The SparseCore call's input, a row per row of each batch. -/
theorem flat_apply (A : InBuf Ideal) (b : Fin 4) (k j : Fin 2048) :
    shapeCast S8192x2048 A shapeCasts_S4x2048x2048_S8192x2048 (ix2 (⟨2048 * b.val + k.val, by omega⟩ : Fin 8192) j) = A (ix3 b k j) :=
  shapeCast_apply A _ _ (ix3 b k j) (by
    rw [Shape.rowMajor_val_two, Shape.rowMajor_val_three]
    show (b.val * 2048 + k.val) * 2048 + j.val = (2048 * b.val + k.val) * 2048 + j.val
    rw [Nat.mul_comm b.val])

/-- Column `q` of the SparseCore call's results, for batch `b`. -/
theorem rightV_apply (A : InBuf Ideal) (b : Fin 4) (q : Fin 512) :
    rightV (shapeCast S8192x2048 A shapeCasts_S4x2048x2048_S8192x2048 : XBuf Ideal) (ix2 b q)
      = pooled fun k : Fin 2048 => A (ix3 b k (⟨1536 + q.val, by omega⟩ : Fin 2048)) := by
  unfold rightV
  rw [shapeCast_apply (outVal _) _ (ix2 b q) (ix1 (⟨512 * b.val + q.val, by omega⟩ : Fin 2048))
    (by
      rw [Shape.rowMajor_val_two, Shape.rowMajor_val_one]
      show 512 * b.val + q.val = b.val * 512 + q.val
      rw [Nat.mul_comm b.val]), outVal_apply]
  exact congrArg pooled (funext fun k => flat_apply A b k _)

/-- The program's result is the input's columns, pooled. -/
theorem finalV_apply (m : (ℓ : Loc nD τ sig) → Buf (Elt Ideal) ℓ) (d : Dev nD) (b : Fin 4) (j : Fin 2048) :
    finalV m d (ix2 b j) = pooled fun k : Fin 2048 => (m (aLoc d) : InBuf Ideal) (ix3 b k j) := by
  unfold finalV
  by_cases h : j.val < 1536
  · refine (concatenate_pair_apply_left (t := S4x2048) (s₁ := S4x1536) (s₂ := S4x512) 1 _ _ _ (ix2 b j) rfl (ix2 b (⟨j.val, h⟩ : Fin 1536)) fun a => ?_).trans
      (leftV_apply _ b ⟨j.val, h⟩)
    match a with
    | ⟨0, _⟩ => rfl
    | ⟨1, _⟩ => rfl
  · have hq : j = (⟨1536 + (⟨j.val - 1536, by omega⟩ : Fin 512).val, by omega⟩ : Fin 2048) := Fin.ext (by show j.val = 1536 + (j.val - 1536); omega)
    refine (concatenate_pair_apply_right (t := S4x2048) (s₁ := S4x1536) (s₂ := S4x512) 1 _ _ _ (ix2 b j) rfl rfl (ix2 b (⟨j.val - 1536, by omega⟩ : Fin 512)) (fun a ha => ?_) ?_).trans
      ((rightV_apply _ b _).trans (congrArg (fun j => pooled fun k : Fin 2048 => (m (aLoc d) : InBuf Ideal) (ix3 b k j)) hq.symm))
    · match a, ha with
      | ⟨0, _⟩, _ => rfl
      | ⟨1, _⟩, ha => exact absurd rfl ha
    · show j.val - 1536 + 1536 = j.val
      omega

/-- The reference's result from the same input is the kernel's. -/
theorem refA_eq (m : (ℓ : Loc nD τ sig) → Buf (Elt Ideal) ℓ) (d : Dev nD) : RefValue.refA (m (aLoc d)) = finalV m d := by
  funext i
  obtain ⟨b, j, rfl⟩ : ∃ (b : Fin 4) (j : Fin 2048), i = ix2 b j := ⟨i 0, i 1, eq_ix2 i⟩
  rw [finalV_apply]
  exact RefValue.refA_apply (m (aLoc d)) b j

end Cert.Proof.Pool

namespace Cert.Proof

open Idealize.ShloMosaic Idealize.SL.Sem

/-- From the same input both programs end with the same result, and with the input unchanged. -/
theorem algebraic : Cert.algebraic_KernelIdeal_ReferenceIdeal := by
  intro m ρ m' ρ' _ hagree
  refine ⟨fun c => Pool.finalV m c, (θ_run Cert.KernelIdeal.defs _ _).mono (fun _ h c => ⟨(h.1 c).2, (h.1 c).1⟩) (Pool.run_main (F := Ideal) m ρ), ?_⟩
  refine (θ_run Cert.ReferenceIdeal.defs _ _).mono (fun _ h c => ⟨((h c).1.trans ?_), (h c).2⟩) (Cert.ReferenceIdeal.Value.run (F := Ideal) m' ρ')
  exact (congrArg RefValue.refA (hagree c)).trans (Pool.refA_eq m c)

end Cert.Proof

end
-- ==== Proof.lean ====
/-
  The certificate's claims, proved: the frames of the kernel, of its reading at exact reals, and of the reference, and the equality of
  the last two programs' results.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Frames
public import proofs.«01_k».proof.Proof.Equal

@[expose] public section

noncomputable section

namespace Cert.Proof

/-- Everything claimed. -/
theorem claim : Cert.Claim :=
  ⟨Cert.Kernel.Gen.facts, Cert.KernelIdeal.Gen.facts, Cert.ReferenceIdeal.Gen.facts, frame_kernel, frame_kernelIdeal, frame_referenceIdeal, trivial, algebraic⟩

end Cert.Proof

end
